-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_on_in_use [hKernelIdeal : Cert.KernelIdeal.Facts] [hReferenceIdeal : Cert.ReferenceIdeal.Facts] [hPre_routed : Cert.Pre_routed.Facts] [hOn_in_use : Cert.On_in_use.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1179648, 128]⟩ : Shape).Idx, (Cert.On_in_use.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v25) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1179648, 128]⟩ : Shape).Idx, (Cert.On_in_use.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v82) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_2) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_routed : Cert.Pre_routed.Facts) (hOn_in_use : Cert.On_in_use.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_on_in_use (hKernelIdeal := hKernelIdeal) (hReferenceIdeal := hReferenceIdeal) (hPre_routed := hPre_routed) (hOn_in_use := hOn_in_use)
    ∧ preserves_Kernel2_Kernel2Ideal
    ∧ algebraic_Kernel2Ideal_Reference2Ideal (hKernel2Ideal := hKernel2Ideal) (hReference2Ideal := hReference2Ideal)
-- ==== On_in_use.lean ====
abbrev S32 : Shape := ⟨1, ![32]⟩
abbrev S147456x1024 : Shape := ⟨2, ![147456, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S1179648x128 : Shape := ⟨2, ![1179648, 128]⟩
abbrev S_ : Shape := ⟨0, ![]⟩
abbrev S1 : Shape := ⟨1, ![1]⟩

class Facts : Prop where
  bcast_S_S1179648x128 : S_.BroadcastsInDim S1179648x128 (![] : Fin 0 → Fin S1179648x128.rank)
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  bcast_S_S1 : S_.BroadcastsInDim S1 (![] : Fin 0 → Fin S1.rank)
  shapeCasts_S1_S_ : S1.ShapeCasts S_

variable [Facts]

def fn_where {F : FTy → Type} [FloatOps F] (arg0 : IVec S1179648x128 1) (arg1 : IVec S1179648x128 32) (arg2 : IVec S1179648x128 32) : IVec S1179648x128 32 :=
  let v0 : IVec S1179648x128 32 := select arg0 arg1 arg2
  v0

def fn_floor_divide {F : FTy → Type} [FloatOps F] (arg0 : IVec S1179648x128 32) (arg1 : IVec S_ 32) : IVec S1179648x128 32 :=
  let v0 : IVec S_ 32 := id arg1
  let v1 : IVec S1179648x128 32 := broadcastInDim S1179648x128 ![] bcast_S_S1179648x128 v0
  let v2 : IVec S1179648x128 32 := Host.divsi arg0 v1
  let v3 : IVec S1179648x128 32 := signi arg0
  let v4 : IVec S_ 32 := signi v0
  let v5 : IVec S1179648x128 32 := broadcastInDim S1179648x128 ![] bcast_S_S1179648x128 v4
  let v6 : IVec S1179648x128 1 := cmpi .ne v3 v5
  let v7 : IVec S1179648x128 32 := broadcastInDim S1179648x128 ![] bcast_S_S1179648x128 v0
  let v8 : IVec S1179648x128 32 := Host.remsi arg0 v7
  let c : IVec S_ 32 := constantI S_ 32 0#32
  let v9 : IVec S1179648x128 32 := broadcastInDim S1179648x128 ![] bcast_S_S1179648x128 c
  let v10 : IVec S1179648x128 1 := cmpi .ne v8 v9
  let v11 : IVec S1179648x128 1 := andi v6 v10
  let c_0 : IVec S_ 32 := constantI S_ 32 1#32
  let v12 : IVec S1179648x128 32 := broadcastInDim S1179648x128 ![] bcast_S_S1179648x128 c_0
  let v13 : IVec S1179648x128 32 := subi v2 v12
  let v14 : IVec S1179648x128 32 := fn_where (F := F) v11 v13 v2
  v14

def fn_where_1 {F : FTy → Type} [FloatOps F] (arg0 : IVec S32 1) (arg1 : IVec S32 32) (arg2 : IVec S32 32) : IVec S32 32 :=
  let v0 : IVec S32 32 := select arg0 arg1 arg2
  v0

def fn_floor_divide_0 {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where_1 (F := F) v11 v13 v2
  v14

def fn_cumsum_2 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_2 (F := F) arg0
  v0

def fn_where_4 {F : FTy → Type} [FloatOps F] (arg0 : IVec S1 1) (arg1 : IVec S1 32) (arg2 : IVec S1 32) : IVec S1 32 :=
  let v0 : IVec S1 32 := select arg0 arg1 arg2
  v0

def fn_floor_divide_3 {F : FTy → Type} [FloatOps F] (arg0 : IVec S1 32) (arg1 : IVec S_ 32) : IVec S1 32 :=
  let v0 : IVec S_ 32 := id arg1
  let v1 : IVec S1 32 := broadcastInDim S1 ![] bcast_S_S1 v0
  let v2 : IVec S1 32 := Host.divsi arg0 v1
  let v3 : IVec S1 32 := signi arg0
  let v4 : IVec S_ 32 := signi v0
  let v5 : IVec S1 32 := broadcastInDim S1 ![] bcast_S_S1 v4
  let v6 : IVec S1 1 := cmpi .ne v3 v5
  let v7 : IVec S1 32 := broadcastInDim S1 ![] bcast_S_S1 v0
  let v8 : IVec S1 32 := Host.remsi arg0 v7
  let c : IVec S_ 32 := constantI S_ 32 0#32
  let v9 : IVec S1 32 := broadcastInDim S1 ![] bcast_S_S1 c
  let v10 : IVec S1 1 := cmpi .ne v8 v9
  let v11 : IVec S1 1 := andi v6 v10
  let c_0 : IVec S_ 32 := constantI S_ 32 1#32
  let v12 : IVec S1 32 := broadcastInDim S1 ![] bcast_S_S1 c_0
  let v13 : IVec S1 32 := subi v2 v12
  let v14 : IVec S1 32 := fn_where_4 (F := F) v11 v13 v2
  v14

def fn {F : FTy → Type} [FloatOps F] (main_arg0 : IVec S32 32) (main_arg1 : FVec F S147456x1024 .f32) (main_arg2 : FVec F S4x32x1024x2048 .f32) (main_arg3 : FVec F S4x32x2048 .f32) (main_arg4 : FVec F S4x32x1024x1024 .f32) (main_arg5 : FVec F S4x32x1024 .f32) : IVec S1179648x128 1 :=
  let main_v0 : IVec S1179648x128 32 := iotaInDim S1179648x128 32 0
  let main_c : IVec S_ 32 := constantI S_ 32 4096#32
  let main_v1 : IVec S1179648x128 32 := fn_floor_divide (F := F) main_v0 main_c
  let main_c_0 : IVec S_ 32 := constantI S_ 32 512#32
  let main_v2 : IVec S32 32 := broadcastInDim S32 ![] bcast_S_S32 main_c_0
  let main_v3 : IVec S32 32 := addi main_arg0 main_v2
  let main_c_1 : IVec S_ 32 := constantI S_ 32 1#32
  let main_v4 : IVec S32 32 := broadcastInDim S32 ![] bcast_S_S32 main_c_1
  let main_v5 : IVec S32 32 := subi main_v3 main_v4
  let main_c_2 : IVec S_ 32 := constantI S_ 32 512#32
  let main_v6 : IVec S32 32 := fn_floor_divide_0 (F := F) main_v5 main_c_2
  let main_c_3 : IVec S_ 32 := constantI S_ 32 512#32
  let main_v7 : IVec S32 32 := broadcastInDim S32 ![] bcast_S_S32 main_c_3
  let main_v8 : IVec S32 32 := muli main_v6 main_v7
  let main_v9 : IVec S32 32 := fn_cumsum (F := F) main_v8
  let main_v10 : IVec S1 32 := (extractStridedSlice S1 ![31] · slices_S32_S1_31) main_v9
  let main_c_4 : IVec S_ 32 := constantI S_ 32 512#32
  let main_v11 : IVec S1 32 := fn_floor_divide_3 (F := F) main_v10 main_c_4
  let main_v12 : IVec S_ 32 := shapeCast S_ main_v11 shapeCasts_S1_S_
  let main_v13 : IVec S1179648x128 32 := broadcastInDim S1179648x128 ![] bcast_S_S1179648x128 main_v12
  let main_v14 : IVec S1179648x128 1 := cmpi .slt main_v1 main_v13
  main_v14
-- ==== Pre_routed.lean ====
abbrev S32 : Shape := ⟨1, ![32]⟩
abbrev S147456x1024 : Shape := ⟨2, ![147456, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S1 : Shape := ⟨1, ![1]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  bcast_S_S1 : S_.BroadcastsInDim S1 (![] : Fin 0 → Fin S1.rank)

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_where_2 {F : FTy → Type} [FloatOps F] (arg0 : IVec S1 1) (arg1 : IVec S1 32) (arg2 : IVec S1 32) : IVec S1 32 :=
  let v0 : IVec S1 32 := select arg0 arg1 arg2
  v0

def fn_floor_divide_1 {F : FTy → Type} [FloatOps F] (arg0 : IVec S1 32) (arg1 : IVec S_ 32) : IVec S1 32 :=
  let v0 : IVec S_ 32 := id arg1
  let v1 : IVec S1 32 := broadcastInDim S1 ![] bcast_S_S1 v0
  let v2 : IVec S1 32 := Host.divsi arg0 v1
  let v3 : IVec S1 32 := signi arg0
  let v4 : IVec S_ 32 := signi v0
  let v5 : IVec S1 32 := broadcastInDim S1 ![] bcast_S_S1 v4
  let v6 : IVec S1 1 := cmpi .ne v3 v5
  let v7 : IVec S1 32 := broadcastInDim S1 ![] bcast_S_S1 v0
  let v8 : IVec S1 32 := Host.remsi arg0 v7
  let c : IVec S_ 32 := constantI S_ 32 0#32
  let v9 : IVec S1 32 := broadcastInDim S1 ![] bcast_S_S1 c
  let v10 : IVec S1 1 := cmpi .ne v8 v9
  let v11 : IVec S1 1 := andi v6 v10
  let c_0 : IVec S_ 32 := constantI S_ 32 1#32
  let v12 : IVec S1 32 := broadcastInDim S1 ![] bcast_S_S1 c_0
  let v13 : IVec S1 32 := subi v2 v12
  let v14 : IVec S1 32 := fn_where_2 (F := F) v11 v13 v2
  v14

def fn {F : FTy → Type} [FloatOps F] (main_arg0 : IVec S32 32) (main_arg1 : FVec F S147456x1024 .f32) (main_arg2 : FVec F S4x32x1024x2048 .f32) (main_arg3 : FVec F S4x32x2048 .f32) (main_arg4 : FVec F S4x32x1024x1024 .f32) (main_arg5 : FVec F S4x32x1024 .f32) : IVec S1 1 :=
  let main_c : IVec S_ 32 := constantI S_ 32 512#32
  let main_v0 : IVec S32 32 := broadcastInDim S32 ![] bcast_S_S32 main_c
  let main_v1 : IVec S32 32 := addi main_arg0 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 512#32
  let main_v4 : IVec S32 32 := fn_floor_divide (F := F) main_v3 main_c_1
  let main_c_2 : IVec S_ 32 := constantI S_ 32 512#32
  let main_v5 : IVec S32 32 := broadcastInDim S32 ![] bcast_S_S32 main_c_2
  let main_v6 : IVec S32 32 := muli main_v4 main_v5
  let main_v7 : IVec S32 32 := fn_cumsum (F := F) main_v6
  let main_v8 : IVec S1 32 := (extractStridedSlice S1 ![31] · slices_S32_S1_31) main_v7
  let main_c_3 : IVec S_ 32 := constantI S_ 32 512#32
  let main_v9 : IVec S1 32 := fn_floor_divide_1 (F := F) main_v8 main_c_3
  let main_c_4 : IVec S_ 32 := constantI S_ 32 1#32
  let main_v10 : IVec S1 32 := broadcastInDim S1 ![] bcast_S_S1 main_c_4
  let main_v11 : IVec S1 1 := cmpi .sge main_v9 main_v10
  main_v11
-- ==== Kernel.lean ====
abbrev S32 : Shape := ⟨1, ![32]⟩
abbrev S147456x1024 : Shape := ⟨2, ![147456, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S1179648x128 : Shape := ⟨2, ![1179648, 128]⟩
abbrev S4x32x1x2048 : Shape := ⟨4, ![4, 32, 1, 2048]⟩
abbrev S4x32x1x1024 : Shape := ⟨4, ![4, 32, 1, 1024]⟩
abbrev S4096x128 : Shape := ⟨2, ![4096, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S1x1x1024x512 : Shape := ⟨4, ![1, 1, 1024, 512]⟩
abbrev S1024x512 : Shape := ⟨2, ![1024, 512]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 72
  | .vmem => 14
  | .smem => 2
  | _ => 0

abbrev bufTy : (tb : Table) → Fin (tcTables nBuf tb) → BufTy
  | .hbm, ⟨0, _⟩ => ⟨S32, .i32⟩
  | .hbm, ⟨1, _⟩ => ⟨S147456x1024, .f32⟩
  | .hbm, ⟨2, _⟩ => ⟨S4x32x1024x2048, .f32⟩
  | .hbm, ⟨3, _⟩ => ⟨S4x32x2048, .f32⟩
  | .hbm, ⟨4, _⟩ => ⟨S4x32x1024x1024, .f32⟩
  | .hbm, ⟨5, _⟩ => ⟨S4x32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S288, .i32⟩
  | .hbm, ⟨37, _⟩ => ⟨S_, .i32⟩
  | .hbm, ⟨38, _⟩ => ⟨S288, .i32⟩
  | .hbm, ⟨39, _⟩ => ⟨S288, .i32⟩
  | .hbm, ⟨40, _⟩ => ⟨S1x32, .i32⟩
  | .hbm, ⟨41, _⟩ => ⟨S288x1, .i32⟩
  | .hbm, ⟨42, _⟩ => ⟨S288x32, .i32⟩
  | .hbm, ⟨43, _⟩ => ⟨S288x32, .i32⟩
  | .hbm, ⟨44, _⟩ => ⟨S288x32, .i1⟩
  | .hbm, ⟨45, _⟩ => ⟨S288x32, .i32⟩
  | .hbm, ⟨46, _⟩ => ⟨S_, .i32⟩
  | .hbm, ⟨47, _⟩ => ⟨S288, .i32⟩
  | .hbm, ⟨48, _⟩ => ⟨S_, .i32⟩
  | .hbm, ⟨49, _⟩ => ⟨S288, .i32⟩
  | .hbm, ⟨50, _⟩ => ⟨S1, .i32⟩
  | .hbm, ⟨51, _⟩ => ⟨S_, .i32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i1⟩
  | .hbm, ⟨59, _⟩ => ⟨S1, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S1, .i1⟩
  | .hbm, ⟨64, _⟩ => ⟨S1, .i1⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S1179648x128, .f32⟩
  | .hbm, ⟨69, _⟩ => ⟨S4x32x1x2048, .f32⟩
  | .hbm, ⟨70, _⟩ => ⟨S4x32x1x1024, .f32⟩
  | .hbm, ⟨71, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v20 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32 : Shape := ⟨1, ![32]⟩
abbrev S147456x1024 : Shape := ⟨2, ![147456, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S1x32 : Shape := ⟨2, ![1, 32]⟩
abbrev S288 : Shape := ⟨1, ![288]⟩
abbrev S288x1 : Shape := ⟨2, ![288, 1]⟩
abbrev S288x32 : Shape := ⟨2, ![288, 32]⟩
abbrev S288x512x1024 : Shape := ⟨3, ![288, 512, 1024]⟩
abbrev S1x32x1024x2048 : Shape := ⟨4, ![1, 32, 1024, 2048]⟩
abbrev S32x1024x2048 : Shape := ⟨3, ![32, 1024, 2048]⟩
abbrev S288x1024x2048 : Shape := ⟨3, ![288, 1024, 2048]⟩
abbrev S288x512x2048 : Shape := ⟨3, ![288, 512, 2048]⟩
abbrev S1x32x2048 : Shape := ⟨3, ![1, 32, 2048]⟩
abbrev S32x2048 : Shape := ⟨2, ![32, 2048]⟩
abbrev S288x2048 : Shape := ⟨2, ![288, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1024 : Shape := ⟨3, ![1, 32, 1024]⟩
abbrev S32x1024 : Shape := ⟨2, ![32, 1024]⟩
abbrev S288x1024 : Shape := ⟨2, ![288, 1024]⟩
abbrev S288x1x1024 : Shape := ⟨3, ![288, 1, 1024]⟩
abbrev S1179648x128 : Shape := ⟨2, ![1179648, 128]⟩

abbrev nBuf : Space → Nat
  | .hbm => 134
  | .vmem => 0
  | .smem => 0
  | _ => 0

abbrev hbmTy0_0 (i : Nat) : BufTy := match i % 128 with
  | 0 => ⟨S32, .i32⟩
  | 1 => ⟨S147456x1024, .f32⟩
  | 2 => ⟨S4x32x1024x2048, .f32⟩
  | 3 => ⟨S4x32x2048, .f32⟩
  | 4 => ⟨S4x32x1024x1024, .f32⟩
  | 5 => ⟨S4x32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S1x32, .i32⟩
  | 37 => ⟨S288, .i32⟩
  | 38 => ⟨S_, .i32⟩
  | 39 => ⟨S288, .i32⟩
  | 40 => ⟨S288, .i32⟩
  | 41 => ⟨S288x1, .i32⟩
  | 42 => ⟨S288x32, .i32⟩
  | 43 => ⟨S288x32, .i32⟩
  | 44 => ⟨S288x32, .i1⟩
  | 45 => ⟨S288x32, .i32⟩
  | 46 => ⟨S_, .i32⟩
  | 47 => ⟨S288, .i32⟩
  | 48 => ⟨S_, .i32⟩
  | 49 => ⟨S288, .i32⟩
  | 50 => ⟨S288, .i32⟩
  | 51 => ⟨S288x512x1024, .f32⟩
  | 52 => ⟨S1x32x1024x2048, .f32⟩
  | 53 => ⟨S32x1024x2048, .f32⟩
  | 54 => ⟨S_, .i32⟩
  | 55 => ⟨S288, .i32⟩
  | 56 => ⟨S288, .i1⟩
  | 57 => ⟨S_, .i32⟩
  | 58 => ⟨S288, .i32⟩
  | 59 => ⟨S288, .i32⟩
  | 60 => ⟨S288, .i32⟩
  | 61 => ⟨S288x1, .i32⟩
  | 62 => ⟨S288x1024x2048, .f32⟩
  | 63 => ⟨S288x512x2048, .f32⟩
  | 64 => ⟨S1x32x2048, .f32⟩
  | 65 => ⟨S32x2048, .f32⟩
  | 66 => ⟨S_, .i32⟩
  | 67 => ⟨S288, .i32⟩
  | 68 => ⟨S288, .i1⟩
  | 69 => ⟨S_, .i32⟩
  | 70 => ⟨S288, .i32⟩
  | 71 => ⟨S288, .i32⟩
  | 72 => ⟨S288, .i32⟩
  | 73 => ⟨S288x1, .i32⟩
  | 74 => ⟨S288x2048, .f32⟩
  | 75 => ⟨S288x1x2048, .f32⟩
  | 76 => ⟨S288x512x2048, .f32⟩
  | 77 => ⟨S288x512x2048, .f32⟩
  | 78 => ⟨S288x512x1024, .f32⟩
  | 79 => ⟨S_, .f32⟩
  | 80 => ⟨S288x512x1024, .f32⟩
  | 81 => ⟨S288x512x1024, .f32⟩
  | 82 => ⟨S288x512x1024, .f32⟩
  | 83 => ⟨S_, .f32⟩
  | 84 => ⟨S_, .f32⟩
  | 85 => ⟨S_, .f32⟩
  | 86 => ⟨S288x512x1024, .f32⟩
  | 87 => ⟨S288x512x1024, .f32⟩
  | 88 => ⟨S_, .f32⟩
  | 89 => ⟨S288x512x1024, .f32⟩
  | 90 => ⟨S288x512x1024, .f32⟩
  | 91 => ⟨S_, .f32⟩
  | 92 => ⟨S288x512x1024, .f32⟩
  | 93 => ⟨S288x512x1024, .f32⟩
  | 94 => ⟨S288x512x1024, .f32⟩
  | 95 => ⟨S_, .f32⟩
  | 96 => ⟨S288x512x1024, .f32⟩
  | 97 => ⟨S288x512x1024, .f32⟩
  | 98 => ⟨S288x512x1024, .f32⟩
  | 99 => ⟨S288x512x1024, .f32⟩
  | 100 => ⟨S_, .f32⟩
  | 101 => ⟨S288x512x1024, .f32⟩
  | 102 => ⟨S288x512x1024, .f32⟩
  | 103 => ⟨S_, .f32⟩
  | 104 => ⟨S288x512x1024, .f32⟩
  | 105 => ⟨S288x512x1024, .f32⟩
  | 106 => ⟨S288x512x1024, .f32⟩
  | 107 => ⟨S1x32x1024x1024, .f32⟩
  | 108 => ⟨S32x1024x1024, .f32⟩
  | 109 => ⟨S_, .i32⟩
  | 110 => ⟨S288, .i32⟩
  | 111 => ⟨S288, .i1⟩
  | 112 => ⟨S_, .i32⟩
  | 113 => ⟨S288, .i32⟩
  | 114 => ⟨S288, .i32⟩
  | 115 => ⟨S288, .i32⟩
  | 116 => ⟨S288x1, .i32⟩
  | 117 => ⟨S288x1024x1024, .f32⟩
  | 118 => ⟨S288x512x1024, .f32⟩
  | 119 => ⟨S1x32x1024, .f32⟩
  | 120 => ⟨S32x1024, .f32⟩
  | 121 => ⟨S_, .i32⟩
  | 122 => ⟨S288, .i32⟩
  | 123 => ⟨S288, .i1⟩
  | 124 => ⟨S_, .i32⟩
  | 125 => ⟨S288, .i32⟩
  | 126 => ⟨S288, .i32⟩
  | 127 => ⟨S288, .i32⟩
  | _ => ⟨S32, .i32⟩

abbrev hbmTy0_1 (i : Nat) : BufTy := match i % 128 with
  | 0 => ⟨S288x1, .i32⟩
  | 1 => ⟨S288x1024, .f32⟩
  | 2 => ⟨S288x1x1024, .f32⟩
  | 3 => ⟨S288x512x1024, .f32⟩
  | 4 => ⟨S288x512x1024, .f32⟩
  | 5 => ⟨S1179648x128, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_c_7 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_8 : Ref sig .tc := ⟨.hbm, 66, rfl⟩
abbrev main_v33 : Ref sig .tc := ⟨.hbm, 67, rfl⟩
abbrev main_v34 : Ref sig .tc := ⟨.hbm, 68, rfl⟩
abbrev main_c_9 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_10 : Ref sig .tc := ⟨.hbm, 83, rfl⟩
abbrev main_cst_11 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v47 : Ref sig .tc := ⟨.hbm, 90, rfl⟩
abbrev main_cst_12 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_13 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_14 : Ref sig .tc := ⟨.hbm, 100, rfl⟩
abbrev main_v55 : Ref sig .tc := ⟨.hbm, 101, rfl⟩
abbrev main_v56 : Ref sig .tc := ⟨.hbm, 102, rfl⟩
abbrev main_cst_15 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_c_16 : Ref sig .tc := ⟨.hbm, 109, rfl⟩
abbrev main_v62 : Ref sig .tc := ⟨.hbm, 110, rfl⟩
abbrev main_v63 : Ref sig .tc := ⟨.hbm, 111, rfl⟩
abbrev main_c_17 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_c_18 : Ref sig .tc := ⟨.hbm, 121, rfl⟩
abbrev main_v72 : Ref sig .tc := ⟨.hbm, 122, rfl⟩
abbrev main_v73 : Ref sig .tc := ⟨.hbm, 123, rfl⟩
abbrev main_c_19 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1024 : Shape := ⟨2, ![4, 1024]⟩
abbrev S4x1x1024 : Shape := ⟨3, ![4, 1, 1024]⟩
abbrev S4x1024x2072 : Shape := ⟨3, ![4, 1024, 2072]⟩
abbrev S4x1024x768 : Shape := ⟨3, ![4, 1024, 768]⟩
abbrev S4x1024x512 : Shape := ⟨3, ![4, 1024, 512]⟩
abbrev S_ : Shape := ⟨0, ![]⟩
abbrev S4x1024x256 : Shape := ⟨3, ![4, 1024, 256]⟩
abbrev S4x1024x64 : Shape := ⟨3, ![4, 1024, 64]⟩
abbrev S4x1024x4 : Shape := ⟨3, ![4, 1024, 4]⟩
abbrev S4x1024x116 : Shape := ⟨3, ![4, 1024, 116]⟩
abbrev S4x1024x2180 : Shape := ⟨3, ![4, 1024, 2180]⟩
abbrev S4x1024x124 : Shape := ⟨3, ![4, 1024, 124]⟩
abbrev S4x1024x2304 : Shape := ⟨3, ![4, 1024, 2304]⟩
abbrev S1x1024 : Shape := ⟨2, ![1, 1024]⟩
abbrev S1024 : Shape := ⟨1, ![1024]⟩
abbrev S1x1024x2304 : Shape := ⟨3, ![1, 1024, 2304]⟩
abbrev S1024x2304 : Shape := ⟨2, ![1024, 2304]⟩
abbrev S4x8192x768 : Shape := ⟨3, ![4, 8192, 768]⟩
abbrev S4x2x64x64x512 : Shape := ⟨5, ![4, 2, 64, 64, 512]⟩
abbrev S4x8192x256 : Shape := ⟨3, ![4, 8192, 256]⟩
abbrev S4x9728x512 : Shape := ⟨3, ![4, 9728, 512]⟩
abbrev S4x2x76x128x128 : Shape := ⟨5, ![4, 2, 76, 128, 128]⟩
abbrev S4x9728x256 : Shape := ⟨3, ![4, 9728, 256]⟩
abbrev S1x512x1024 : Shape := ⟨3, ![1, 512, 1024]⟩
abbrev S1x1x1024 : Shape := ⟨3, ![1, 1, 1024]⟩
abbrev S1x512x768 : Shape := ⟨3, ![1, 512, 768]⟩
abbrev S1x2x4x64x512 : Shape := ⟨5, ![1, 2, 4, 64, 512]⟩
abbrev S1x512x256 : Shape := ⟨3, ![1, 512, 256]⟩
abbrev S1x512x512 : Shape := ⟨3, ![1, 512, 512]⟩
abbrev S1x2x4x128x128 : Shape := ⟨5, ![1, 2, 4, 128, 128]⟩
abbrev S512x512 : Shape := ⟨2, ![512, 512]⟩
abbrev S512x256 : Shape := ⟨2, ![512, 256]⟩
abbrev S128x128 : Shape := ⟨2, ![128, 128]⟩
abbrev S1x1x1x128x128 : Shape := ⟨5, ![1, 1, 1, 128, 128]⟩
abbrev S512x1024 : Shape := ⟨2, ![512, 1024]⟩
abbrev S512 : Shape := ⟨1, ![512]⟩
abbrev S512x1 : Shape := ⟨2, ![512, 1]⟩
abbrev S512x2304 : Shape := ⟨2, ![512, 2304]⟩
abbrev S512x768 : Shape := ⟨2, ![512, 768]⟩
abbrev S64x128 : Shape := ⟨2, ![64, 128]⟩
abbrev S64x512 : Shape := ⟨2, ![64, 512]⟩
abbrev S1x1x1x64x512 : Shape := ⟨5, ![1, 1, 1, 64, 512]⟩
abbrev S512x128 : Shape := ⟨2, ![512, 128]⟩
abbrev S1x512x128 : Shape := ⟨3, ![1, 512, 128]⟩
abbrev S128x512 : Shape := ⟨2, ![128, 512]⟩

abbrev nBuf : Space → Nat
  | .hbm => 46
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1x1024, .f32⟩
  | .hbm, ⟨3, _⟩ => ⟨S4x1x1024, .f32⟩
  | .hbm, ⟨4, _⟩ => ⟨S4x1024x2072, .f32⟩
  | .hbm, ⟨5, _⟩ => ⟨S4x1024x768, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S4x1024x256, .f32⟩
  | .hbm, ⟨11, _⟩ => ⟨S4x1024x64, .f32⟩
  | .hbm, ⟨12, _⟩ => ⟨S4x1024x64, .f32⟩
  | .hbm, ⟨13, _⟩ => ⟨S4x1024x64, .f32⟩
  | .hbm, ⟨14, _⟩ => ⟨S4x1024x64, .f32⟩
  | .hbm, ⟨15, _⟩ => ⟨S4x1024x64, .f32⟩
  | .hbm, ⟨16, _⟩ => ⟨S4x1024x64, .f32⟩
  | .hbm, ⟨17, _⟩ => ⟨S4x1024x64, .f32⟩
  | .hbm, ⟨18, _⟩ => ⟨S4x1024x64, .f32⟩
  | .hbm, ⟨19, _⟩ => ⟨S4x1024x4, .f32⟩
  | .hbm, ⟨20, _⟩ => ⟨S4x1024x4, .f32⟩
  | .hbm, ⟨21, _⟩ => ⟨S4x1024x4, .f32⟩
  | .hbm, ⟨22, _⟩ => ⟨S_, .f32⟩
  | .hbm, ⟨23, _⟩ => ⟨S4x1024x116, .f32⟩
  | .hbm, ⟨24, _⟩ => ⟨S4x1024x4, .f32⟩
  | .hbm, ⟨25, _⟩ => ⟨S4x1024x4, .f32⟩
  | .hbm, ⟨26, _⟩ => ⟨S4x1024x4, .f32⟩
  | .hbm, ⟨27, _⟩ => ⟨S_, .f32⟩
  | .hbm, ⟨28, _⟩ => ⟨S4x1024x116, .f32⟩
  | .hbm, ⟨29, _⟩ => ⟨S4x1024x2180, .f32⟩
  | .hbm, ⟨30, _⟩ => ⟨S4x1024x124, .f32⟩
  | .hbm, ⟨31, _⟩ => ⟨S4x1024x2304, .f32⟩
  | .hbm, ⟨32, _⟩ => ⟨S4x1024x2304, .bf16⟩
  | .hbm, ⟨33, _⟩ => ⟨S1x1024, .f32⟩
  | .hbm, ⟨34, _⟩ => ⟨S1024, .f32⟩
  | .hbm, ⟨35, _⟩ => ⟨S1x1024x2304, .bf16⟩
  | .hbm, ⟨36, _⟩ => ⟨S1024x2304, .bf16⟩
  | .hbm, ⟨37, _⟩ => ⟨S1x1024, .f32⟩
  | .hbm, ⟨38, _⟩ => ⟨S4x8192x768, .f32⟩
  | .hbm, ⟨39, _⟩ => ⟨S4x2x64x64x512, .bf16⟩
  | .hbm, ⟨40, _⟩ => ⟨S4x8192x256, .bf16⟩
  | .hbm, ⟨41, _⟩ => ⟨S4x9728x512, .bf16⟩
  | .hbm, ⟨42, _⟩ => ⟨S4x2x76x128x128, .bf16⟩
  | .hbm, ⟨43, _⟩ => ⟨S4x9728x256, .bf16⟩
  | .hbm, ⟨44, _⟩ => ⟨S4x2x76x128x128, .bf16⟩
  | .hbm, ⟨45, _⟩ => ⟨S4x8192x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2304, .bf16⟩
  | .local _ .vmem, ⟨8, _⟩ => ⟨S1x512x768, .f32⟩
  | .local _ .vmem, ⟨9, _⟩ => ⟨S1x512x768, .f32⟩
  | .local _ .vmem, ⟨10, _⟩ => ⟨S1x2x4x64x512, .bf16⟩
  | .local _ .vmem, ⟨11, _⟩ => ⟨S1x2x4x64x512, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x512, .bf16⟩
  | .local _ .vmem, ⟨15, _⟩ => ⟨S1x512x512, .bf16⟩
  | .local _ .vmem, ⟨16, _⟩ => ⟨S1x2x4x128x128, .bf16⟩
  | .local _ .vmem, ⟨17, _⟩ => ⟨S1x2x4x128x128, .bf16⟩
  | .local _ .vmem, ⟨18, _⟩ => ⟨S1x512x256, .bf16⟩
  | .local _ .vmem, ⟨19, _⟩ => ⟨S1x512x256, .bf16⟩
  | .local _ .vmem, ⟨20, _⟩ => ⟨S1x2x4x128x128, .bf16⟩
  | .local _ .vmem, ⟨21, _⟩ => ⟨S1x2x4x128x128, .bf16⟩
  | .local _ .vmem, ⟨22, _⟩ => ⟨S1x512x256, .f32⟩
  | .local _ .vmem, ⟨23, _⟩ => ⟨S1x512x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev main_v30_3 : Ref sig .tc := ⟨.hbm, 41, rfl⟩
abbrev main_v30_4 : Ref sig .tc := ⟨.hbm, 42, rfl⟩
abbrev main_v30_5 : Ref sig .tc := ⟨.hbm, 43, rfl⟩
abbrev main_v30_6 : Ref sig .tc := ⟨.hbm, 44, rfl⟩
abbrev main_v30_7 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 19], ![false, false]⟩

def k0_cond2 (i : grid0.Coords) : BitVec 1 :=
  let arg1 : BitVec 32 := BitVec.ofNat 32 (i 1).val
  let c3_i32_0 : BitVec 32 := 3#32
  let v3 : BitVec 1 := Scalar.cmpi .sge arg1 c3_i32_0
  let v4 : BitVec 32 := Scalar.extui v3
  let c0_i32_1 : BitVec 32 := 0#32
  let v5 : BitVec 1 := Scalar.cmpi .ne v4 c0_i32_1
  v5

def k0_cond1 (i : grid0.Coords) : BitVec 1 :=
  let arg1 : BitVec 32 := BitVec.ofNat 32 (i 1).val
  let c3_i32 : BitVec 32 := 3#32
  let v0 : BitVec 1 := Scalar.cmpi .slt arg1 c3_i32
  let v1 : BitVec 32 := Scalar.extui v0
  let c0_i32 : BitVec 32 := 0#32
  let v2 : BitVec 1 := Scalar.cmpi .ne v1 c0_i32
  v2

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, v1.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x4x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x4x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x4x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S4x8192x1024 : Shape := ⟨3, ![4, 8192, 1024]⟩
abbrev S4x1024 : Shape := ⟨2, ![4, 1024]⟩
abbrev S4x1x1024 : Shape := ⟨3, ![4, 1, 1024]⟩
abbrev S4x1024x2072 : Shape := ⟨3, ![4, 1024, 2072]⟩
abbrev S_ : Shape := ⟨0, ![]⟩
abbrev S4x8192 : Shape := ⟨2, ![4, 8192]⟩
abbrev S4x8192x1 : Shape := ⟨3, ![4, 8192, 1]⟩
abbrev S1x1024 : Shape := ⟨2, ![1, 1024]⟩
abbrev S1024 : Shape := ⟨1, ![1024]⟩
abbrev S1x1x1024 : Shape := ⟨3, ![1, 1, 1024]⟩
abbrev S1x1024x2072 : Shape := ⟨3, ![1, 1024, 2072]⟩
abbrev S1024x2072 : Shape := ⟨2, ![1024, 2072]⟩
abbrev S4x8192x2072 : Shape := ⟨3, ![4, 8192, 2072]⟩
abbrev S4x8192x768 : Shape := ⟨3, ![4, 8192, 768]⟩
abbrev S4x8192x256 : Shape := ⟨3, ![4, 8192, 256]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1x1024, .f32⟩
  | .hbm, ⟨3, _⟩ => ⟨S4x1x1024, .f32⟩
  | .hbm, ⟨4, _⟩ => ⟨S4x1024x2072, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S1x1024x2072, .f32⟩
  | .hbm, ⟨31, _⟩ => ⟨S1024x2072, .f32⟩
  | .hbm, ⟨32, _⟩ => ⟨S4x8192x2072, .f32⟩
  | .hbm, ⟨33, _⟩ => ⟨S4x8192x768, .f32⟩
  | .hbm, ⟨34, _⟩ => ⟨S4x8192x256, .f32⟩
  | .hbm, ⟨35, _⟩ => ⟨S4x8192x256, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Experts.Blocks.lean ====
module

public import proofs.«01_k».proof.Proof.Gen.KernelIdeal.Skeleton
public import Idealize.ShloMosaic.Lib.Pipeline.FrameBody
public import Idealize.ShloMosaic.Lib.Pipeline.Value
public import Idealize.ShloMosaic.Lib.Pointwise
public import Idealize.ShloMosaic.Lib.Tactic

@[expose] public section

set_option maxRecDepth 16384

noncomputable section

namespace Cert.KernelIdeal.Gen

open Idealize.ShloMosaic Idealize.ShloMosaic.TcCoe Idealize.ShloMosaic.Tactic

variable {F : FTy → Type} [FloatOps F]

/-! ## What the body computes, as functions of the blocks it is handed -/

/-- The word `n_used[0]` of the second table. -/
def nuWord (nu : Vec F S1 .i32) : BitVec 32 :=
  nu ((Rect.unit (s := S1) ![0] S1.size inb_S1_S1_0).emb (Shape.Idx.first (numel1_S1.symm ▸ Nat.one_pos)))

/-- The word `blk_e[i]` of the first table at grid point `i`. -/
def beWord (be : Vec F S288 .i32) (i : grid0.Coords) : BitVec 32 :=
  be ((Rect.unit (s := S288) (k0_off2 i) S1.size (k0_off2_inb i)).emb (Shape.Idx.first (numel1_S1.symm ▸ Nat.one_pos)))

/-- The word `blk_e[max(i - 1, 0)]` of the first table at grid point `i`. -/
def bePrev (be : Vec F S288 .i32) (i : grid0.Coords) : BitVec 32 :=
  be ((Rect.unit (s := S288) (k0_off3 i) S1.size (k0_off3_inb i)).emb (Shape.Idx.first (numel1_S1.symm ▸ Nat.one_pos)))

/-- The condition under which the body rounds the weights into its scratch: the first point, or a new expert. -/
def reloadBit (be : Vec F S288 .i32) (i : grid0.Coords) : BitVec 1 :=
  Scalar.cmpi .ne (Scalar.extui (Scalar.ori (Scalar.cmpi .eq (BitVec.ofNat 32 (i 0).val) 0#32) (Scalar.cmpi .ne (beWord be i) (bePrev be i))) : BitVec 32) 0#32

/-- The gate-and-up weights rounded to bf16, as the first scratch holds them. -/
def castGu (x1 : Vec F S1x1x1024x2048 .f32) : Vec F S1024x2048 .bf16 := fun j =>
  FloatOps.truncf .bf16 bitsLt_bf16_f32 (x1 (ix4 (n0 := 1) (n1 := 1) (n2 := 1024) (n3 := 2048) 0 0 (j 0) (j 1)))

/-- The down weights rounded to bf16, as the second scratch holds them. -/
def castDown (x3 : Vec F S1x1x1024x1024 .f32) : Vec F S1024x1024 .bf16 := fun j =>
  FloatOps.truncf .bf16 bitsLt_bf16_f32 (x3 (ix4 (n0 := 1) (n1 := 1) (n2 := 1024) (n3 := 1024) 0 0 (j 0) (j 1)))

/-- Lane chunk `s` of the block's 512 rows: the tile rows `8 r + s`. -/
def laneRows (x0 : Vec F S4096x128 .f32) (s : Fin 8) : Vec F S512x128 .f32 := fun k =>
  x0 (ix2 (n0 := 4096) (n1 := 128) ⟨s.val + 8 * (k 0).val, by have := (k 0).isLt; have h : (k 0).val < 512 := (k 0).isLt; omega⟩ (k 1))

/-- A block of 512 rows laid out as 4096 rows of one lane tile: row `8 r + s` holds lanes `128 s …` of row `r`. -/
def tileRows (y : Vec F S512x1024 .f32) : Vec F S4096x128 .f32 := fun j =>
  y (ix2 (n0 := 512) (n1 := 1024) ⟨(j 0).val / 8, by have h : (j 0).val < 4096 := (j 0).isLt; omega⟩
    ⟨128 * ((j 0).val % 8) + (j 1).val, by have h : (j 1).val < 128 := (j 1).isLt; omega⟩)

/-- The 512 result rows of one block. -/
def outVals (x0 : Vec F S4096x128 .f32) (w1 : Vec F S1024x2048 .bf16) (x2 : Vec F S1x1x1x2048 .f32) (w2 : Vec F S1024x1024 .bf16)
    (x4 : Vec F S1x1x1x1024 .f32) : Vec F S512x1024 .f32 :=
  k0_pay12 (k0_pay11 (laneRows x0 0) (laneRows x0 1) (laneRows x0 2) (laneRows x0 3) (laneRows x0 4) (laneRows x0 5) (laneRows x0 6) (laneRows x0 7) w1) x2 w2 x4

/-! ## Reading what the loads and stores leave -/

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A strided load of the block is a lane chunk of it. -/
theorem laneRows_eq {κ : Kind} {sp : Space} (v : View sig κ sp S4096x128 .f32) (f : v.ty.Contents (Elt F)) (s : Fin 8) (off stride : Fin 2 → Nat)
    (h0 : off 0 = s.val) (h1 : off 1 = 0) (g0 : stride 0 = 8) (g1 : stride 1 = 1)
    (inb : ∀ a, S512x128.size a = 0 ∨ off a + stride a * (S512x128.size a - 1) < S4096x128.size a) :
    v.readAt (Elt F) (⟨off, S512x128.size, stride, inb⟩ : LoadRect S4096x128) f = laneRows (v.read (Elt F) f) s := by
  funext k
  rw [View.readAt_apply]
  unfold laneRows
  refine congrArg (v.read (Elt F) f) (funext fun a => Fin.ext ?_)
  match a with
  | ⟨0, _⟩ => show off 0 + stride 0 * (k 0).val = s.val + 8 * (k 0).val; rw [h0, g0]
  | ⟨1, _⟩ => show off 1 + stride 1 * (k 1).val = (k 1).val; rw [h1, g1]; omega

/-- A lane slice of the result rows is where the tile layout puts it. -/
theorem tileRows_piece (y : Vec F S512x1024 .f32) (s : Fin 8) (off : Fin 2 → Nat) (h0 : off 0 = 0) (h1 : off 1 = 128 * s.val)
    (h : S512x1024.Slices off S512x128) (x : S512x128.Idx) (j : S4096x128.Idx) (hj0 : (j 0).val = s.val + 8 * (x 0).val) (hj1 : (j 1).val = (x 1).val) :
    extractStridedSlice S512x128 off y h x = tileRows y j := by
  unfold tileRows
  refine extractStridedSlice_apply off y h x _ fun a => ?_
  match a with
  | ⟨0, _⟩ => show (j 0).val / 8 = off 0 + (x 0).val; rw [h0, hj0]; have := s.isLt; omega
  | ⟨1, _⟩ => show 128 * ((j 0).val % 8) + (j 1).val = off 1 + (x 1).val; rw [h1, hj0, hj1]; have := s.isLt; omega

/-- Every place of the tile layout is in one of the eight strided pieces. -/
theorem mem_strided (j : S4096x128.Idx) (s : Nat) (off stride : Fin 2 → Nat) (h0 : off 0 = s) (h1 : off 1 = 0) (g0 : stride 0 = 8) (g1 : stride 1 = 1)
    (inb : ∀ a, S512x128.size a = 0 ∨ off a + stride a * (S512x128.size a - 1) < S4096x128.size a) (pos : ∀ a, 0 < stride a)
    (hj : (j 0).val % 8 = s) : j ∈ (⟨(⟨off, S512x128.size, stride, inb⟩ : LoadRect S4096x128), pos⟩ : Rect S4096x128).set := by
  refine (LoadRect.mem_set _).mpr fun a => ?_
  have h0' : (j 0).val < 4096 := (j 0).isLt
  have h1' : (j 1).val < 128 := (j 1).isLt
  match a with
  | ⟨0, _⟩ => exact ⟨(j 0).val / 8, show (j 0).val / 8 < 512 by omega, show (j 0).val = off 0 + stride 0 * ((j 0).val / 8) by rw [h0, g0]; omega⟩
  | ⟨1, _⟩ => exact ⟨(j 1).val, h1', show (j 1).val = off 1 + stride 1 * (j 1).val by rw [h1, g1]; omega⟩

/-- A rounded column chunk of the gate-and-up weights is where the first scratch holds it. -/
theorem castGu_piece {κ : Kind} {sp : Space} (v : View sig κ sp S1x1x1024x2048 .f32) (f : v.ty.Contents (Elt F)) (o : Nat)
    (off4 : Fin 4 → Nat) (e0 : off4 0 = 0) (e1 : off4 1 = 0) (e2 : off4 2 = 0) (e3 : off4 3 = o) (inb4 : ∀ a, off4 a + S1x1x1024x512.size a ≤ S1x1x1024x2048.size a)
    (x : S1024x512.Idx) (j : S1024x2048.Idx) (hj0 : (j 0).val = (x 0).val) (hj1 : (j 1).val = o + (x 1).val)
    (h : S1x1x1024x512.ShapeCasts S1024x512) (h' : S1024x512.ShapeCasts S1024x512) :
    shapeCast S1024x512 (truncf .bf16 (shapeCast S1024x512 (v.readAt (Elt F) (Rect.unit (s := S1x1x1024x2048) off4 S1x1x1024x512.size inb4).toLoadRect f) h) bitsLt_bf16_f32) h' x
      = castGu (v.read (Elt F) f) j := by
  rw [shapeCast_apply _ h' x x rfl]
  show FloatOps.truncf .bf16 _ _ = FloatOps.truncf .bf16 _ _
  congr 1
  have hx0 : (x 0).val < 1024 := (x 0).isLt
  have hx1 : (x 1).val < 512 := (x 1).isLt
  rw [shapeCast_apply _ h x (ix4 (n0 := 1) (n1 := 1) (n2 := 1024) (n3 := 512) 0 0 (x 0) (x 1)) (by
    rw [show S1x1x1024x512.rowMajor (ix4 (n0 := 1) (n1 := 1) (n2 := 1024) (n3 := 512) 0 0 (x 0) (x 1)) = (⟨4, ![1, 1, 1024, 512]⟩ : Shape).rowMajor (ix4 (n0 := 1) (n1 := 1) (n2 := 1024) (n3 := 512) 0 0 (x 0) (x 1)) from rfl,
      show S1024x512.rowMajor x = (⟨2, ![1024, 512]⟩ : Shape).rowMajor x from rfl,
      rowMajor_val4 _ 524288 524288 512 rfl rfl rfl, rowMajor_val2 _ 512 rfl]
    show 0 * 524288 + 0 * 524288 + (x 0).val * 512 + (x 1).val = (x 0).val * 512 + (x 1).val
    omega)]
  rw [View.readAt_apply]
  refine congrArg (v.read (Elt F) f) (funext fun a => Fin.ext ?_)
  match a with
  | ⟨0, _⟩ => show off4 0 + 1 * 0 = 0; rw [e0]
  | ⟨1, _⟩ => show off4 1 + 1 * 0 = 0; rw [e1]
  | ⟨2, _⟩ => show off4 2 + 1 * (x 0).val = (j 0).val; rw [e2, hj0]; omega
  | ⟨3, _⟩ => show off4 3 + 1 * (x 1).val = (j 1).val; rw [e3, hj1]; omega

/-- A rounded column chunk of the down weights is where the second scratch holds it. -/
theorem castDown_piece {κ : Kind} {sp : Space} (v : View sig κ sp S1x1x1024x1024 .f32) (f : v.ty.Contents (Elt F)) (o : Nat)
    (off4 : Fin 4 → Nat) (e0 : off4 0 = 0) (e1 : off4 1 = 0) (e2 : off4 2 = 0) (e3 : off4 3 = o) (inb4 : ∀ a, off4 a + S1x1x1024x512.size a ≤ S1x1x1024x1024.size a)
    (x : S1024x512.Idx) (j : S1024x1024.Idx) (hj0 : (j 0).val = (x 0).val) (hj1 : (j 1).val = o + (x 1).val)
    (h : S1x1x1024x512.ShapeCasts S1024x512) (h' : S1024x512.ShapeCasts S1024x512) :
    shapeCast S1024x512 (truncf .bf16 (shapeCast S1024x512 (v.readAt (Elt F) (Rect.unit (s := S1x1x1024x1024) off4 S1x1x1024x512.size inb4).toLoadRect f) h) bitsLt_bf16_f32) h' x
      = castDown (v.read (Elt F) f) j := by
  rw [shapeCast_apply _ h' x x rfl]
  show FloatOps.truncf .bf16 _ _ = FloatOps.truncf .bf16 _ _
  congr 1
  have hx0 : (x 0).val < 1024 := (x 0).isLt
  have hx1 : (x 1).val < 512 := (x 1).isLt
  rw [shapeCast_apply _ h x (ix4 (n0 := 1) (n1 := 1) (n2 := 1024) (n3 := 512) 0 0 (x 0) (x 1)) (by
    rw [show S1x1x1024x512.rowMajor (ix4 (n0 := 1) (n1 := 1) (n2 := 1024) (n3 := 512) 0 0 (x 0) (x 1)) = (⟨4, ![1, 1, 1024, 512]⟩ : Shape).rowMajor (ix4 (n0 := 1) (n1 := 1) (n2 := 1024) (n3 := 512) 0 0 (x 0) (x 1)) from rfl,
      show S1024x512.rowMajor x = (⟨2, ![1024, 512]⟩ : Shape).rowMajor x from rfl,
      rowMajor_val4 _ 524288 524288 512 rfl rfl rfl, rowMajor_val2 _ 512 rfl]
    show 0 * 524288 + 0 * 524288 + (x 0).val * 512 + (x 1).val = (x 0).val * 512 + (x 1).val
    omega)]
  rw [View.readAt_apply]
  refine congrArg (v.read (Elt F) f) (funext fun a => Fin.ext ?_)
  match a with
  | ⟨0, _⟩ => show off4 0 + 1 * 0 = 0; rw [e0]
  | ⟨1, _⟩ => show off4 1 + 1 * 0 = 0; rw [e1]
  | ⟨2, _⟩ => show off4 2 + 1 * (x 0).val = (j 0).val; rw [e2, hj0]; omega
  | ⟨3, _⟩ => show off4 3 + 1 * (x 1).val = (j 1).val; rw [e3, hj1]; omega

/-- The result rows from the loads' values. -/
theorem outVals_of {a0 a1 a2 a3 a4 a5 a6 a7 : Vec F S512x128 .f32} {x0 : Vec F S4096x128 .f32} {b1 w1 : Vec F S1024x2048 .bf16} {b2 x2 : Vec F S1x1x1x2048 .f32}
    {b3 w2 : Vec F S1024x1024 .bf16} {b4 x4 : Vec F S1x1x1x1024 .f32} (h0 : a0 = laneRows x0 0) (h1 : a1 = laneRows x0 1) (h2 : a2 = laneRows x0 2)
    (h3 : a3 = laneRows x0 3) (h4 : a4 = laneRows x0 4) (h5 : a5 = laneRows x0 5) (h6 : a6 = laneRows x0 6) (h7 : a7 = laneRows x0 7)
    (e1 : b1 = w1) (e2 : b2 = x2) (e3 : b3 = w2) (e4 : b4 = x4) :
    k0_pay12 (k0_pay11 a0 a1 a2 a3 a4 a5 a6 a7 b1) b2 b3 b4 = outVals x0 w1 x2 w2 x4 := by
  subst h0 h1 h2 h3 h4 h5 h6 h7 e1 e2 e3 e4; rfl

/-- The output block after its eight strided stores holds the result rows in the tile layout. -/
theorem read_tiles {κ : Kind} {sp : Space} (v : View sig κ sp S4096x128 .f32) (f : v.ty.Contents (Elt F)) (y : Vec F S512x1024 .f32) :
    v.read (Elt F) (v.writes (Elt F) f
      [⟨⟨(⟨![7, 0], S512x128.size, ![8, 1], inb_S4096x128_S512x128_7_0_s_8_1⟩ : LoadRect S4096x128), spos_8_1⟩, extractStridedSlice S512x128 ![0, 896] y slices_S512x1024_o0_896_S512x128⟩, ⟨⟨(⟨![6, 0], S512x128.size, ![8, 1], inb_S4096x128_S512x128_6_0_s_8_1⟩ : LoadRect S4096x128), spos_8_1⟩, extractStridedSlice S512x128 ![0, 768] y slices_S512x1024_o0_768_S512x128⟩, ⟨⟨(⟨![5, 0], S512x128.size, ![8, 1], inb_S4096x128_S512x128_5_0_s_8_1⟩ : LoadRect S4096x128), spos_8_1⟩, extractStridedSlice S512x128 ![0, 640] y slices_S512x1024_o0_640_S512x128⟩, ⟨⟨(⟨![4, 0], S512x128.size, ![8, 1], inb_S4096x128_S512x128_4_0_s_8_1⟩ : LoadRect S4096x128), spos_8_1⟩, extractStridedSlice S512x128 ![0, 512] y slices_S512x1024_o0_512_S512x128⟩, ⟨⟨(⟨![3, 0], S512x128.size, ![8, 1], inb_S4096x128_S512x128_3_0_s_8_1⟩ : LoadRect S4096x128), spos_8_1⟩, extractStridedSlice S512x128 ![0, 384] y slices_S512x1024_o0_384_S512x128⟩, ⟨⟨(⟨![2, 0], S512x128.size, ![8, 1], inb_S4096x128_S512x128_2_0_s_8_1⟩ : LoadRect S4096x128), spos_8_1⟩, extractStridedSlice S512x128 ![0, 256] y slices_S512x1024_o0_256_S512x128⟩, ⟨⟨(⟨![1, 0], S512x128.size, ![8, 1], inb_S4096x128_S512x128_1_0_s_8_1⟩ : LoadRect S4096x128), spos_8_1⟩, extractStridedSlice S512x128 ![0, 128] y slices_S512x1024_o0_128_S512x128⟩, ⟨⟨(⟨![0, 0], S512x128.size, ![8, 1], inb_S4096x128_S512x128_0_0_s_8_1⟩ : LoadRect S4096x128), spos_8_1⟩, extractStridedSlice S512x128 ![0, 0] y slices_S512x1024_o0_0_S512x128⟩]) = tileRows y := by
  funext j
  refine View.read_writes_apply_of_pieces v f (tileRows y) _ (fun p hp x => ?_) j ?_
  · simp only [List.mem_cons, List.not_mem_nil, or_false] at hp
    rcases hp with rfl | rfl | rfl | rfl | rfl | rfl | rfl | rfl
    · exact tileRows_piece y 7 _ rfl rfl slices_S512x1024_o0_896_S512x128 x _ rfl (show 0 + 1 * (x 1).val = (x 1).val by omega)
    · exact tileRows_piece y 6 _ rfl rfl slices_S512x1024_o0_768_S512x128 x _ rfl (show 0 + 1 * (x 1).val = (x 1).val by omega)
    · exact tileRows_piece y 5 _ rfl rfl slices_S512x1024_o0_640_S512x128 x _ rfl (show 0 + 1 * (x 1).val = (x 1).val by omega)
    · exact tileRows_piece y 4 _ rfl rfl slices_S512x1024_o0_512_S512x128 x _ rfl (show 0 + 1 * (x 1).val = (x 1).val by omega)
    · exact tileRows_piece y 3 _ rfl rfl slices_S512x1024_o0_384_S512x128 x _ rfl (show 0 + 1 * (x 1).val = (x 1).val by omega)
    · exact tileRows_piece y 2 _ rfl rfl slices_S512x1024_o0_256_S512x128 x _ rfl (show 0 + 1 * (x 1).val = (x 1).val by omega)
    · exact tileRows_piece y 1 _ rfl rfl slices_S512x1024_o0_128_S512x128 x _ rfl (show 0 + 1 * (x 1).val = (x 1).val by omega)
    · exact tileRows_piece y 0 _ rfl rfl slices_S512x1024_o0_0_S512x128 x _ rfl (show 0 + 1 * (x 1).val = (x 1).val by omega)
  · have h8 : (j 0).val % 8 < 8 := Nat.mod_lt _ (by decide)
    obtain h | h | h | h | h | h | h | h : (j 0).val % 8 = 7 ∨ (j 0).val % 8 = 6 ∨ (j 0).val % 8 = 5 ∨ (j 0).val % 8 = 4 ∨ (j 0).val % 8 = 3 ∨ (j 0).val % 8 = 2 ∨ (j 0).val % 8 = 1 ∨ (j 0).val % 8 = 0 := by omega
    · exact ⟨_, List.mem_cons_self, mem_strided j 7 _ _ rfl rfl rfl rfl _ _ h⟩
    · exact ⟨_, (List.mem_cons_of_mem _ List.mem_cons_self), mem_strided j 6 _ _ rfl rfl rfl rfl _ _ h⟩
    · exact ⟨_, (List.mem_cons_of_mem _ (List.mem_cons_of_mem _ List.mem_cons_self)), mem_strided j 5 _ _ rfl rfl rfl rfl _ _ h⟩
    · exact ⟨_, (List.mem_cons_of_mem _ (List.mem_cons_of_mem _ (List.mem_cons_of_mem _ List.mem_cons_self))), mem_strided j 4 _ _ rfl rfl rfl rfl _ _ h⟩
    · exact ⟨_, (List.mem_cons_of_mem _ (List.mem_cons_of_mem _ (List.mem_cons_of_mem _ (List.mem_cons_of_mem _ List.mem_cons_self)))), mem_strided j 3 _ _ rfl rfl rfl rfl _ _ h⟩
    · exact ⟨_, (List.mem_cons_of_mem _ (List.mem_cons_of_mem _ (List.mem_cons_of_mem _ (List.mem_cons_of_mem _ (List.mem_cons_of_mem _ List.mem_cons_self))))), mem_strided j 2 _ _ rfl rfl rfl rfl _ _ h⟩
    · exact ⟨_, (List.mem_cons_of_mem _ (List.mem_cons_of_mem _ (List.mem_cons_of_mem _ (List.mem_cons_of_mem _ (List.mem_cons_of_mem _ (List.mem_cons_of_mem _ List.mem_cons_self)))))), mem_strided j 1 _ _ rfl rfl rfl rfl _ _ h⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_strided j 0 _ _ rfl rfl rfl rfl _ _ h⟩

/-- The first scratch after its four stores holds the rounded gate-and-up weights. -/
theorem read_gu {κ κ' : Kind} {sp sp' : Space} (v : View sig κ sp S1024x2048 .bf16) (f : v.ty.Contents (Elt F)) (v4 : View sig κ' sp' S1x1x1024x2048 .f32) (f4 : v4.ty.Contents (Elt F)) :
    v.read (Elt F) (v.writes (Elt F) f
      [⟨Rect.unit (s := S1024x2048) ![0, 1536] S1024x512.size inb_S1024x2048_S1024x512_0_1536, k0_pay7 (View.readAt (Elt F) v4 (Rect.unit (s := S1x1x1024x2048) ![0, 0, 0, 1536] S1x1x1024x512.size inb_S1x1x1024x2048_S1x1x1024x512_0_0_0_1536).toLoadRect f4)⟩, ⟨Rect.unit (s := S1024x2048) ![0, 1024] S1024x512.size inb_S1024x2048_S1024x512_0_1024, k0_pay6 (View.readAt (Elt F) v4 (Rect.unit (s := S1x1x1024x2048) ![0, 0, 0, 1024] S1x1x1024x512.size inb_S1x1x1024x2048_S1x1x1024x512_0_0_0_1024).toLoadRect f4)⟩, ⟨Rect.unit (s := S1024x2048) ![0, 512] S1024x512.size inb_S1024x2048_S1024x512_0_512, k0_pay5 (View.readAt (Elt F) v4 (Rect.unit (s := S1x1x1024x2048) ![0, 0, 0, 512] S1x1x1024x512.size inb_S1x1x1024x2048_S1x1x1024x512_0_0_0_512).toLoadRect f4)⟩, ⟨Rect.unit (s := S1024x2048) ![0, 0] S1024x512.size inb_S1024x2048_S1024x512_0_0, k0_pay4 (View.readAt (Elt F) v4 (Rect.unit (s := S1x1x1024x2048) ![0, 0, 0, 0] S1x1x1024x512.size inb_S1x1x1024x2048_S1x1x1024x512_0_0_0_0).toLoadRect f4)⟩]) = castGu (v4.read (Elt F) f4) := by
  funext j
  have hj : (j 1).val < 2048 := (j 1).isLt
  have hj0 : (j 0).val < 1024 := (j 0).isLt
  refine View.read_writes_apply_of_pieces v f (castGu (v4.read (Elt F) f4)) _ (fun p hp x => ?_) j ?_
  · simp only [List.mem_cons, List.not_mem_nil, or_false] at hp
    rcases hp with rfl | rfl | rfl | rfl
    · exact castGu_piece v4 f4 1536 ![0, 0, 0, 1536] rfl rfl rfl rfl _ x _ (show 0 + 1 * (x 0).val = (x 0).val by omega) (show 1536 + 1 * (x 1).val = 1536 + (x 1).val by omega) _ _
    · exact castGu_piece v4 f4 1024 ![0, 0, 0, 1024] rfl rfl rfl rfl _ x _ (show 0 + 1 * (x 0).val = (x 0).val by omega) (show 1024 + 1 * (x 1).val = 1024 + (x 1).val by omega) _ _
    · exact castGu_piece v4 f4 512 ![0, 0, 0, 512] rfl rfl rfl rfl _ x _ (show 0 + 1 * (x 0).val = (x 0).val by omega) (show 512 + 1 * (x 1).val = 512 + (x 1).val by omega) _ _
    · exact castGu_piece v4 f4 0 ![0, 0, 0, 0] rfl rfl rfl rfl _ x _ (show 0 + 1 * (x 0).val = (x 0).val by omega) (show 0 + 1 * (x 1).val = 0 + (x 1).val by omega) _ _
  · obtain h | h | h | h : 1536 ≤ (j 1).val ∨ (1024 ≤ (j 1).val ∧ (j 1).val < 1536) ∨ (512 ≤ (j 1).val ∧ (j 1).val < 1024) ∨ (j 1).val < 512 := by omega
    · refine ⟨_, List.mem_cons_self, (Rect.mem_set_unit (inb := inb_S1024x2048_S1024x512_0_1536)).mpr fun a => ?_⟩
      match a with
      | ⟨0, _⟩ => exact ⟨Nat.zero_le _, show (j 0).val < 0 + 1024 by omega⟩
      | ⟨1, _⟩ => exact ⟨show 1536 ≤ (j 1).val by omega, show (j 1).val < 1536 + 512 by omega⟩
    · refine ⟨_, (List.mem_cons_of_mem _ List.mem_cons_self), (Rect.mem_set_unit (inb := inb_S1024x2048_S1024x512_0_1024)).mpr fun a => ?_⟩
      match a with
      | ⟨0, _⟩ => exact ⟨Nat.zero_le _, show (j 0).val < 0 + 1024 by omega⟩
      | ⟨1, _⟩ => exact ⟨show 1024 ≤ (j 1).val by omega, show (j 1).val < 1024 + 512 by omega⟩
    · refine ⟨_, (List.mem_cons_of_mem _ (List.mem_cons_of_mem _ List.mem_cons_self)), (Rect.mem_set_unit (inb := inb_S1024x2048_S1024x512_0_512)).mpr fun a => ?_⟩
      match a with
      | ⟨0, _⟩ => exact ⟨Nat.zero_le _, show (j 0).val < 0 + 1024 by omega⟩
      | ⟨1, _⟩ => exact ⟨show 512 ≤ (j 1).val by omega, show (j 1).val < 512 + 512 by omega⟩
    · refine ⟨_, (List.mem_cons_of_mem _ (List.mem_cons_of_mem _ (List.mem_cons_of_mem _ List.mem_cons_self))), (Rect.mem_set_unit (inb := inb_S1024x2048_S1024x512_0_0)).mpr fun a => ?_⟩
      match a with
      | ⟨0, _⟩ => exact ⟨Nat.zero_le _, show (j 0).val < 0 + 1024 by omega⟩
      | ⟨1, _⟩ => exact ⟨show 0 ≤ (j 1).val by omega, show (j 1).val < 0 + 512 by omega⟩

/-- The second scratch after its two stores holds the rounded down weights. -/
theorem read_down {κ κ' : Kind} {sp sp' : Space} (v : View sig κ sp S1024x1024 .bf16) (f : v.ty.Contents (Elt F)) (v4 : View sig κ' sp' S1x1x1024x1024 .f32) (f4 : v4.ty.Contents (Elt F)) :
    v.read (Elt F) (v.writes (Elt F) f
      [⟨Rect.unit (s := S1024x1024) ![0, 512] S1024x512.size inb_S1024x1024_S1024x512_0_512, k0_pay10 (View.readAt (Elt F) v4 (Rect.unit (s := S1x1x1024x1024) ![0, 0, 0, 512] S1x1x1024x512.size inb_S1x1x1024x1024_S1x1x1024x512_0_0_0_512).toLoadRect f4)⟩, ⟨Rect.unit (s := S1024x1024) ![0, 0] S1024x512.size inb_S1024x1024_S1024x512_0_0, k0_pay9 (k0_pay8 (View.readAt (Elt F) v4 (Rect.unit (s := S1x1x1024x1024) ![0, 0, 0, 0] S1x1x1024x512.size inb_S1x1x1024x1024_S1x1x1024x512_0_0_0_0).toLoadRect f4))⟩]) = castDown (v4.read (Elt F) f4) := by
  funext j
  have hj : (j 1).val < 1024 := (j 1).isLt
  have hj0 : (j 0).val < 1024 := (j 0).isLt
  refine View.read_writes_apply_of_pieces v f (castDown (v4.read (Elt F) f4)) _ (fun p hp x => ?_) j ?_
  · simp only [List.mem_cons, List.not_mem_nil, or_false] at hp
    rcases hp with rfl | rfl
    · exact castDown_piece v4 f4 512 ![0, 0, 0, 512] rfl rfl rfl rfl _ x _ (show 0 + 1 * (x 0).val = (x 0).val by omega) (show 512 + 1 * (x 1).val = 512 + (x 1).val by omega) _ _
    · exact castDown_piece v4 f4 0 ![0, 0, 0, 0] rfl rfl rfl rfl _ x _ (show 0 + 1 * (x 0).val = (x 0).val by omega) (show 0 + 1 * (x 1).val = 0 + (x 1).val by omega) _ _
  · obtain h | h : 512 ≤ (j 1).val ∨ (j 1).val < 512 := by omega
    · refine ⟨_, List.mem_cons_self, (Rect.mem_set_unit (inb := inb_S1024x1024_S1024x512_0_512)).mpr fun a => ?_⟩
      match a with
      | ⟨0, _⟩ => exact ⟨Nat.zero_le _, show (j 0).val < 0 + 1024 by omega⟩
      | ⟨1, _⟩ => exact ⟨show 512 ≤ (j 1).val by omega, show (j 1).val < 512 + 512 by omega⟩
    · refine ⟨_, (List.mem_cons_of_mem _ List.mem_cons_self), (Rect.mem_set_unit (inb := inb_S1024x1024_S1024x512_0_0)).mpr fun a => ?_⟩
      match a with
      | ⟨0, _⟩ => exact ⟨Nat.zero_le _, show (j 0).val < 0 + 1024 by omega⟩
      | ⟨1, _⟩ => exact ⟨show 0 ≤ (j 1).val by omega, show (j 1).val < 0 + 512 by omega⟩

end Cert.KernelIdeal.Gen

end
-- ==== Proof.Experts.Body.lean ====
module

public import proofs.«01_k».proof.Proof.Gen.KernelIdeal.Launch
public import proofs.«01_k».proof.Proof.Gen.KernelIdeal.Skeleton
public import proofs.«01_k».proof.Proof.Experts.Blocks
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

/-- The first scratch after the body: the rounded weights where the body rounds them, else what it held. -/
def gu1 (i : grid0.Coords) (be : Vec F S288 .i32) (x1 : Vec F S1x1x1024x2048 .f32) (d : Vec F S1024x2048 .bf16) : Vec F S1024x2048 .bf16 :=
  if reloadBit be i = 1#1 then castGu x1 else d

/-- The second scratch after the body, likewise. -/
def dn1 (i : grid0.Coords) (be : Vec F S288 .i32) (x3 : Vec F S1x1x1024x1024 .f32) (d : Vec F S1024x1024 .bf16) : Vec F S1024x1024 .bf16 :=
  if reloadBit be i = 1#1 then castDown x3 else d

/-- The first scratch, at the contents the run states for it, is what `gu1` says. -/
theorem read_gu1 {κ κ' : Kind} {sp sp' : Space} (v : View sig κ sp S1024x2048 .bf16) (f : v.ty.Contents (Elt F)) (v4 : View sig κ' sp' S1x1x1024x2048 .f32) (f4 : v4.ty.Contents (Elt F))
    (b : BitVec 1) (i : grid0.Coords) (be : Vec F S288 .i32) (hb : b = reloadBit be i) :
    v.read (Elt F) (if hc : b = 1#1 then v.writes (Elt F) f [⟨Rect.unit (s := S1024x2048) ![0, 1536] S1024x512.size inb_S1024x2048_S1024x512_0_1536, k0_pay7 (View.readAt (Elt F) v4 (Rect.unit (s := S1x1x1024x2048) ![0, 0, 0, 1536] S1x1x1024x512.size inb_S1x1x1024x2048_S1x1x1024x512_0_0_0_1536).toLoadRect f4)⟩, ⟨Rect.unit (s := S1024x2048) ![0, 1024] S1024x512.size inb_S1024x2048_S1024x512_0_1024, k0_pay6 (View.readAt (Elt F) v4 (Rect.unit (s := S1x1x1024x2048) ![0, 0, 0, 1024] S1x1x1024x512.size inb_S1x1x1024x2048_S1x1x1024x512_0_0_0_1024).toLoadRect f4)⟩, ⟨Rect.unit (s := S1024x2048) ![0, 512] S1024x512.size inb_S1024x2048_S1024x512_0_512, k0_pay5 (View.readAt (Elt F) v4 (Rect.unit (s := S1x1x1024x2048) ![0, 0, 0, 512] S1x1x1024x512.size inb_S1x1x1024x2048_S1x1x1024x512_0_0_0_512).toLoadRect f4)⟩, ⟨Rect.unit (s := S1024x2048) ![0, 0] S1024x512.size inb_S1024x2048_S1024x512_0_0, k0_pay4 (View.readAt (Elt F) v4 (Rect.unit (s := S1x1x1024x2048) ![0, 0, 0, 0] S1x1x1024x512.size inb_S1x1x1024x2048_S1x1x1024x512_0_0_0_0).toLoadRect f4)⟩] else f) = gu1 i be (v4.read (Elt F) f4) (v.read (Elt F) f) := by
  subst hb
  unfold gu1
  split
  · exact read_gu v f v4 f4
  · rfl

/-- The second scratch, at the contents the run states for it, is what `dn1` says. -/
theorem read_dn1 {κ κ' : Kind} {sp sp' : Space} (v : View sig κ sp S1024x1024 .bf16) (f : v.ty.Contents (Elt F)) (v4 : View sig κ' sp' S1x1x1024x1024 .f32) (f4 : v4.ty.Contents (Elt F))
    (b : BitVec 1) (i : grid0.Coords) (be : Vec F S288 .i32) (hb : b = reloadBit be i) :
    v.read (Elt F) (if hc : b = 1#1 then v.writes (Elt F) f [⟨Rect.unit (s := S1024x1024) ![0, 512] S1024x512.size inb_S1024x1024_S1024x512_0_512, k0_pay10 (View.readAt (Elt F) v4 (Rect.unit (s := S1x1x1024x1024) ![0, 0, 0, 512] S1x1x1024x512.size inb_S1x1x1024x1024_S1x1x1024x512_0_0_0_512).toLoadRect f4)⟩, ⟨Rect.unit (s := S1024x1024) ![0, 0] S1024x512.size inb_S1024x1024_S1024x512_0_0, k0_pay9 (k0_pay8 (View.readAt (Elt F) v4 (Rect.unit (s := S1x1x1024x1024) ![0, 0, 0, 0] S1x1x1024x512.size inb_S1x1x1024x1024_S1x1x1024x512_0_0_0_0).toLoadRect f4))⟩] else f) = dn1 i be (v4.read (Elt F) f4) (v.read (Elt F) f) := by
  subst hb
  unfold dn1
  split
  · exact read_down v f v4 f4
  · rfl

set_option maxHeartbeats 4000000 in
/-- One run of the body: the tables and the inputs are kept; at a block in use the result block is the feed-forward of the
    block's rows, through the weights in the scratches, which are rounded anew at a new expert; at any other nothing changes. -/
theorem sound_kernel (c : Dev nD) (E : Set ℕ) (i : grid0.Coords)
    (arg1 : Memref sig .tc .smem S288 .i32) (harg1 : arg1.IsWhole) (arg2 : Memref sig .tc .smem S1 .i32) (harg2 : arg2.IsWhole)
    (arg3 : Memref sig .tc .vmem S4096x128 .f32) (harg3 : arg3.IsWhole) (arg4 : Memref sig .tc .vmem S1x1x1024x2048 .f32) (harg4 : arg4.IsWhole)
    (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S4096x128 .f32) (harg8 : arg8.IsWhole)
    (arg9 : Memref sig .tc .vmem S1024x2048 .bf16) (harg9 : arg9.IsWhole) (arg10 : Memref sig .tc .vmem S1024x1024 .bf16) (harg10 : arg10.IsWhole)
    (be : Vec F S288 .i32) (nu : Vec F S1 .i32) (q : PosShare TreeShare)
    (x0 : Vec F S4096x128 .f32) (x1 : Vec F S1x1x1024x2048 .f32) (x2 : Vec F S1x1x1x2048 .f32) (x3 : Vec F S1x1x1024x1024 .f32) (x4 : Vec F S1x1x1x1024 .f32)
    (d8 : Vec F S4096x128 .f32) (d9 : Vec F S1024x2048 .bf16) (d10 : Vec F S1024x1024 .bf16)
    (K : PUnit → sProp 𝕄) :
    iprop(owns (c : Thread nD τ) arg1 q be ∗ owns (c : Thread nD τ) arg2 q nu ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare d8 ∗ owns (c : Thread nD τ) arg9 fullShare d9 ∗ owns (c : Thread nD τ) arg10 fullShare d10
        ∗ (iprop(owns (c : Thread nD τ) arg1 q be ∗ owns (c : Thread nD τ) arg2 q nu ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
              ∗ owns (c : Thread nD τ) arg8 fullShare (if k0_cond1 i (nuWord nu) = 1#1 then tileRows (outVals x0 (gu1 i be x1 d9) x2 (dn1 i be x3 d10) x4) else d8)
              ∗ owns (c : Thread nD τ) arg9 fullShare (if k0_cond1 i (nuWord nu) = 1#1 then gu1 i be x1 d9 else d9)
              ∗ owns (c : Thread nD τ) arg10 fullShare (if k0_cond1 i (nuWord nu) = 1#1 then dn1 i be x3 d10 else d10)) -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton, k0_part3_eq_skeleton]
  unfold owns
  iintro ⟨⟨%fb, %hfb, Hb⟩, ⟨%fn, %hfn, Hn⟩, ⟨%f0, %hf0, H0⟩, ⟨%f1, %hf1, H1⟩, ⟨%f2, %hf2, H2⟩, ⟨%f3, %hf3, H3⟩, ⟨%f4, %hf4, H4⟩, ⟨%f8, %hf8, H8⟩, ⟨%s0, %hs0, S0⟩, ⟨%s1, %hs1, S1⟩, Hk⟩
  subst hfb hfn hf0 hf1 hf2 hf3 hf4 hf8 hs0 hs1
  sl_exec
  sl_step
  iapply Hk
  isplitl [Hb]
  · iexists fb; isplitr; · ipureintro; rfl
    iexact Hb
  isplitl [Hn]
  · iexists fn; isplitr; · ipureintro; rfl
    iexact Hn
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    by_cases hu : k0_cond1 i (nuWord (arg2.view.read (Elt F) fn)) = 1#1
    · rw [if_pos hu]
      refine (congrArg (View.read (Elt F) arg8.view) (dif_pos hu)).trans ?_
      refine (read_tiles _ _ _).trans (congrArg tileRows ?_)
      refine outVals_of (laneRows_eq _ _ 0 _ _ rfl rfl rfl rfl _) (laneRows_eq _ _ 1 _ _ rfl rfl rfl rfl _) (laneRows_eq _ _ 2 _ _ rfl rfl rfl rfl _)
        (laneRows_eq _ _ 3 _ _ rfl rfl rfl rfl _) (laneRows_eq _ _ 4 _ _ rfl rfl rfl rfl _) (laneRows_eq _ _ 5 _ _ rfl rfl rfl rfl _)
        (laneRows_eq _ _ 6 _ _ rfl rfl rfl rfl _) (laneRows_eq _ _ 7 _ _ rfl rfl rfl rfl _) ?_ ?_ ?_ ?_
      · exact (View.ld_unit_zero (S := S1024x2048) hz2 _ _).trans (read_gu1 _ _ _ _ _ _ _ rfl)
      · exact View.ld_unit_zero (S := S1x1x1x2048) hz4 _ _
      · exact (View.ld_unit_zero (S := S1024x1024) hz2 _ _).trans (read_dn1 _ _ _ _ _ _ _ rfl)
      · exact View.ld_unit_zero (S := S1x1x1x1024) hz4 _ _
    · rw [if_neg hu]
      exact congrArg (View.read (Elt F) arg8.view) (dif_neg hu)
  isplitl [S0]
  · iexists _; isplitr
    swap; · iexact S0
    ipureintro
    by_cases hu : k0_cond1 i (nuWord (arg2.view.read (Elt F) fn)) = 1#1
    · rw [if_pos hu]
      exact (congrArg (View.read (Elt F) arg9.view) (dif_pos hu)).trans (read_gu1 _ _ _ _ _ _ _ rfl)
    · rw [if_neg hu]
      exact congrArg (View.read (Elt F) arg9.view) (dif_neg hu)
  · iexists _; isplitr
    swap; · iexact S1
    ipureintro
    by_cases hu : k0_cond1 i (nuWord (arg2.view.read (Elt F) fn)) = 1#1
    · rw [if_pos hu]
      exact (congrArg (View.read (Elt F) arg10.view) (dif_pos hu)).trans (read_dn1 _ _ _ _ _ _ _ rfl)
    · rw [if_neg hu]
      exact congrArg (View.read (Elt F) arg10.view) (dif_neg hu)

end Cert.KernelIdeal.Gen

end
-- ==== Proof.Experts.Tables.lean ====
module

public import proofs.«01_k».proof.Proof.Experts.Body
public import Idealize.ShloMosaic.Lib.WordArith
public import Idealize.ShloMosaic.Lib.StableHlo.Predicate

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The prefetched tables in numbers -/

/-- How many of the 288 blocks are in use: the count, or all of them where it is more. -/
def used (nu : Vec F S1 .i32) : ℕ := min (nuWord nu).toNat 288

/-- The tables of a routing: every word of the block table names an expert, and the count of blocks in use is a positive number. -/
structure Routed (be : Vec F S288 .i32) (nu : Vec F S1 .i32) : Prop where
  expert : ∀ i : grid0.Coords, (beWord be i).toNat < 32
  first : 1 ≤ (nuWord nu).toNat
  small : (nuWord nu).toNat < 2 ^ 31

/-- At least one block is in use, -/
theorem Routed.pos {be : Vec F S288 .i32} {nu : Vec F S1 .i32} (h : Routed be nu) : 1 ≤ used nu :=
  le_min h.first (by decide)

/-- and at most all. -/
theorem Routed.le {be : Vec F S288 .i32} {nu : Vec F S1 .i32} (_ : Routed be nu) : used nu ≤ 288 := min_le_right _ _

/-- The grid has one axis: a point's coordinate is its number. -/
theorem coords_val (t : Fin grid0.N) : ((grid0.coords t) 0).val = t.val := by
  have h : t.val < 288 := lt_of_lt_of_eq t.isLt N_0
  show t.val / grid0.stride 0 % 288 = t.val
  rw [show grid0.stride 0 = 1 by decide, Nat.div_one, Nat.mod_eq_of_lt h]

theorem coord_lt (i : grid0.Coords) : (i 0).val < 288 := (i 0).isLt

theorem i0_word (i : grid0.Coords) : (BitVec.ofNat 32 (i 0).val).toNat = (i 0).val :=
  WordCmp.toNat_ofNat_of_lt (by have := coord_lt i; omega)

/-- The block of rows a grid point works on: the point's own while in use, the last one in use after. -/
theorem rowBlock (nu : Vec F S1 .i32) (h1 : 1 ≤ (nuWord nu).toNat) (h2 : (nuWord nu).toNat < 2 ^ 31) (i : grid0.Coords) :
    (Scalar.minsi (BitVec.ofNat 32 (i 0).val) (Scalar.subi (nuWord nu) 1#32)).toNat = min (i 0).val (used nu - 1) := by
  have hs : (Scalar.subi (nuWord nu) 1#32).toNat = (nuWord nu).toNat - 1 := by
    show (nuWord nu - 1#32).toNat = _
    rw [BitVec.toNat_sub_of_le (by rw [BitVec.le_def]; exact h1)]; rfl
  have hi := coord_lt i
  rw [show (Scalar.minsi (BitVec.ofNat 32 (i 0).val) (Scalar.subi (nuWord nu) 1#32)).toNat = (IntOp.minsi (BitVec.ofNat 32 (i 0).val) (Scalar.subi (nuWord nu) 1#32)).toNat from rfl,
    WordArith.toNat_minsi_of_lt _ _ (by rw [i0_word]; omega) (by rw [hs]; omega), i0_word, hs]
  unfold used
  omega

/-- A point's block is in use where its number is below the count. -/
theorem used_iff (nu : Vec F S1 .i32) (h2 : (nuWord nu).toNat < 2 ^ 31) (i : grid0.Coords) :
    k0_cond1 i (nuWord nu) = 1#1 ↔ (i 0).val < used nu := by
  have hi := coord_lt i
  have hc : (k0_cond1 i (nuWord nu) = 1#1) ↔ Scalar.cmpi .slt (BitVec.ofNat 32 (i 0).val) (nuWord nu) = 1#1 := by
    unfold k0_cond1
    dsimp only
    rcases (show ∀ b : BitVec 1, b = 0#1 ∨ b = 1#1 by decide) (Scalar.cmpi .slt (BitVec.ofNat 32 (i 0).val) (nuWord nu)) with h | h <;> rw [h] <;> decide
  rw [hc, show Scalar.cmpi .slt (BitVec.ofNat 32 (i 0).val) (nuWord nu) = IntOp.cmpi .slt (BitVec.ofNat 32 (i 0).val) (nuWord nu) from rfl,
    WordCmp.cmpi_slt_of_lt (by rw [i0_word]; omega) (by omega), WordCmp.ofBool_decide_eq_one_iff, i0_word]
  unfold used
  omega

/-- Where the body keeps the weights of the point before, it is not the first point and the expert is the same. -/
theorem kept_of_not_reload (be : Vec F S288 .i32) (i : grid0.Coords) (h : reloadBit be i ≠ 1#1) : (i 0).val ≠ 0 ∧ beWord be i = bePrev be i := by
  unfold reloadBit at h
  have hc : ∀ p q : BitVec 1, Scalar.cmpi .ne (Scalar.extui (Scalar.ori p q) : BitVec 32) 0#32 ≠ 1#1 → p ≠ 1#1 ∧ q ≠ 1#1 := by decide
  obtain ⟨hp, hq⟩ := hc _ _ h
  constructor
  · intro h0; apply hp; rw [h0]; rfl
  · by_contra hne
    apply hq
    rw [show Scalar.cmpi .ne (beWord be i) (bePrev be i) = IntOp.cmpi .ne (beWord be i) (bePrev be i) from rfl, WordCmp.cmpi_ne_eq, WordCmp.ofBool_decide_eq_one_iff]
    exact hne

/-- The word the body compares with is the word of the point before. -/
theorem bePrev_eq (be : Vec F S288 .i32) (i i' : grid0.Coords) (h : (i 0).val ≠ 0) (h' : (i' 0).val = (i 0).val - 1) : bePrev be i = beWord be i' := by
  unfold bePrev beWord
  congr 1
  funext a
  apply Fin.ext
  have hi := coord_lt i
  have hoff : k0_off3 i 0 = k0_off2 i' 0 := by
    show (Scalar.maxsi (Scalar.subi (BitVec.ofNat 32 (i 0).val) 1#32) 0#32).toNat = (BitVec.ofNat 32 (i' 0).val).toNat
    have hs : Scalar.subi (BitVec.ofNat 32 (i 0).val) 1#32 = BitVec.ofNat 32 ((i 0).val - 1) := StableHlo.Predicate.sub_one_ofNat _ (by omega) (by omega)
    rw [hs, i0_word, h']
    have hm : Scalar.maxsi (BitVec.ofNat 32 ((i 0).val - 1)) 0#32 = BitVec.ofNat 32 ((i 0).val - 1) := by
      show (if BitVec.slt _ _ then _ else _) = _
      split
      · rename_i hh
        first
          | rfl
          | (exfalso; rw [StableHlo.Predicate.slt_bool_iff_toNat (by rw [WordCmp.toNat_ofNat_of_lt (by omega)]; omega) (by decide)] at hh; simp at hh)
      · rename_i hh
        first
          | rfl
          | (apply BitVec.eq_of_toNat_eq
             rw [← WordCmp.ofBool_eq_one_iff, StableHlo.Predicate.slt_bool_iff_toNat (a := 0#32) (b := BitVec.ofNat 32 ((i 0).val - 1)) (by decide) (by rw [WordCmp.toNat_ofNat_of_lt (by omega)]; omega)] at hh
             rw [WordCmp.toNat_ofNat_of_lt (by omega)] at hh ⊢
             simp at hh ⊢; omega)
    rw [hm, WordCmp.toNat_ofNat_of_lt (by omega)]
  fin_cases a
  show k0_off3 i 0 + _ = k0_off2 i' 0 + _
  rw [hoff]; rfl

end Cert.KernelIdeal.Gen

end
-- ==== Proof.Experts.Plan.lean ====
module

public import proofs.«01_k».proof.Proof.Experts.Tables
public import Idealize.ShloMosaic.Lib.Routing.Words
public import Idealize.ShloMosaic.Lib.StableHlo.Predicate
public import Idealize.ShloMosaic.Lib.WordCmp

@[expose] public section

set_option maxRecDepth 16384

noncomputable section

namespace Cert.KernelIdeal.Gen

open Idealize.ShloMosaic

/-! ## The tables of a routing, from the experts' counts -/

/-- Each expert's rows, rounded up to whole blocks of 512. -/
def padded (cnt : IVec S32 32) : IVec S32 32 :=
  muli (Routing.pyDiv bcast_S_S32 (subi (addi cnt (broadcastInDim S32 ![] bcast_S_S32 (constantI S_ 32 512#32))) (broadcastInDim S32 ![] bcast_S_S32 (constantI S_ 32 1#32)))
    (constantI S_ 32 512#32)) (broadcastInDim S32 ![] bcast_S_S32 (constantI S_ 32 512#32))

/-- The row where each expert's blocks end. -/
def pend (cnt : IVec S32 32) : IVec S32 32 :=
  Host.reduceWindow IntOp.addi ![32] ![1] ![31] ![0] (padded cnt) (broadcastInDim S_ ![] bcast_S_S_ (constantI S_ 32 0#32)) reduceWindows_S32_S32_w32s1p31_0 h_S_

/-- Which experts end at or before each block's first row. -/
def below (cnt : IVec S32 32) : IVec S288x32 1 :=
  cmpi .sle (broadcastInDim S288x32 ![0, 1] bcast_S1x32_S288x32_0_1 (broadcastInDim S1x32 ![1] bcast_S32_S1x32_1 (pend cnt)))
    (broadcastInDim S288x32 ![0, 1] bcast_S288x1_S288x32_0_1 (broadcastInDim S288x1 ![0] bcast_S288_S288x1_0
      (muli (iotaInDim S288 32 0) (broadcastInDim S288 ![] bcast_S_S288 (constantI S_ 32 512#32)))))

/-- Each block's expert: how many experts end at or before it, at most the last. -/
def expertOf (cnt : IVec S32 32) : IVec S288 32 :=
  minsi (Host.reduce IntOp.addi (extui 32 (below cnt) natLt_1_32) (constantI S_ 32 0#32) reducesTo_S288x32_S288_d1 h_S_)
    (broadcastInDim S288 ![] bcast_S_S288 (constantI S_ 32 31#32))

/-- How many blocks are in use. -/
def blocksOf (cnt : IVec S32 32) : IVec S1 32 :=
  Routing.pyDiv bcast_S_S1 (extractStridedSlice S1 ![31] (pend cnt) slices_S32_S1_31) (constantI S_ 32 512#32)

/-! ## Their ranges -/

/-- A sum of 0-1 words over an axis of the blocks-by-experts array is below 2³¹. -/
theorem reduce_bits_lt (x : IVec S288x32 32) (hx : ∀ i, (x i).toNat ≤ 1) (j : S288.Idx) :
    (Host.reduce IntOp.addi x (constantI S_ 32 0#32) reducesTo_S288x32_S288_d1 h_S_ j).toNat ≤ 9216 := by
  have key : ∀ (l : List (Fin S288x32.numel)) (r : BitVec 32),
      (l.foldl (fun r n => IntOp.addi r (x (S288x32.rowMajor.symm n))) r).toNat ≤ r.toNat + l.length := by
    intro l
    induction l with
    | nil => exact fun r => le_of_eq rfl
    | cons n l ih =>
      intro r
      refine (ih (IntOp.addi r (x (S288x32.rowMajor.symm n)))).trans ?_
      have h1 := hx (S288x32.rowMajor.symm n)
      have h2 : (IntOp.addi r (x (S288x32.rowMajor.symm n))).toNat ≤ r.toNat + (x (S288x32.rowMajor.symm n)).toNat := by
        show (r + x (S288x32.rowMajor.symm n)).toNat ≤ _
        rw [BitVec.toNat_add]
        exact Nat.mod_le _ _
      have h3 : (n :: l).length = l.length + 1 := rfl
      omega
  refine (key _ _).trans ?_
  have h0 : (constantI S_ 32 0#32 (Shape.Idx.first h_S_)).toNat = 0 := rfl
  rw [h0, Nat.zero_add]
  refine (List.length_filter_le _ _).trans ?_
  rw [List.length_finRange]
  decide

/-- An expert's number is below 32. -/
theorem expertOf_lt (cnt : IVec S32 32) (j : S288.Idx) : (expertOf cnt j).toNat < 32 := by
  have h := reduce_bits_lt (extui 32 (below cnt) natLt_1_32) (fun i => by
    have : (extui 32 (below cnt) natLt_1_32 i).toNat = if below cnt i = 1#1 then 1 else 0 := StableHlo.Predicate.toNat_setWidth_bit (below cnt i)
    rw [this]; split <;> omega) j
  show (IntOp.minsi (Host.reduce IntOp.addi (extui 32 (below cnt) natLt_1_32) (constantI S_ 32 0#32) reducesTo_S288x32_S288_d1 h_S_ j) 31#32).toNat < 32
  generalize Host.reduce IntOp.addi (extui 32 (below cnt) natLt_1_32) (constantI S_ 32 0#32) reducesTo_S288x32_S288_d1 h_S_ j = w at h
  unfold IntOp.minsi
  have hw : w.toInt = w.toNat := BitVec.toInt_eq_toNat_of_lt (by omega)
  split
  · rename_i hs
    rw [BitVec.slt_iff_toInt_lt] at hs
    rw [hw, show (31#32 : BitVec 32).toInt = 31 by decide] at hs
    omega
  · decide

/-- Counts that make at least one block give tables of a routing. -/
theorem routed_of_blocks {F : FTy → Type} [FloatOps F] (cnt : IVec S32 32) (h1 : 1 ≤ (nuWord (F := F) (blocksOf cnt)).toNat) (h2 : (nuWord (F := F) (blocksOf cnt)).toNat < 2 ^ 31) :
    Routed (F := F) (expertOf cnt) (blocksOf cnt) :=
  ⟨fun _ => expertOf_lt cnt _, h1, h2⟩

end Cert.KernelIdeal.Gen

end
-- ==== Proof.Experts.Data.lean ====
module

public import proofs.«01_k».proof.Proof.Experts.Plan
public import Idealize.ShloMosaic.Lib.WordArith
public import Idealize.ShloMosaic.Lib.StableHlo.Predicate

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host's operations before the region, in order: the tables of the blocks from the experts' counts, then three reshapes. -/
abbrev hostOpss : List (List (HloOp τ sig (Elt F))) :=
  [hostOps0, hostOps0_1, hostOps0_2, hostOps0_3, hostOps0_4, hostOps0_5, hostOps0_6]

/-- Core `c`'s TensorCore buffers when the region is entered: after the host's operations. -/
abbrev V (c : Dev nD) (b : Ref sig .tc) : Buf (Elt F) ((c : Thread nD τ).loc b) :=
  StableHlo.after (hostOpss (F := F)).flatten (fun b => m (c, b)) b

theorem hostOpss_fresh : (hostOpss : List (List (HloOp τ sig (Elt F)))).Forall fun ops => ops.Forall fun op => op.fresh = ∅ := by
  simp only [List.Forall]; repeat' constructor

theorem hostOpss_sub : (hostOpss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

set_option maxHeartbeats 800000 in
/-- @main up to the region: the host's operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostOpss hostOpss_sub hostOpss_fresh main_chain

/-! ## The windows and their blocks, at tables `a` -/

variable (a : (pcfg0 (F := F)).Adm)

/-- The block table, -/
abbrev beT : Vec F S288 .i32 := a.1 0
/-- and the count of blocks in use. -/
abbrev nuT : Vec F S1 .i32 := a.1 1

/-- Window `w`'s block at point `t`, read off its array as the region finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

variable (hR : Routed (beT a) (nuT a))

/-- The last point in use up to point `k`. -/
def pt (hR : Routed (beT a) (nuT a)) (k : ℕ) : Fin (cfg0 a).N :=
  ⟨min k (used (nuT a) - 1), lt_of_lt_of_eq (by have := hR.le; have := hR.pos; omega) N_0.symm⟩

/-- The result block of point `t`: the feed-forward of the point's rows through the point's expert. -/
def res (c : Dev nD) (t : Fin (cfg0 a).N) : Vec F S4096x128 .f32 :=
  tileRows (outVals (iblk m a c 0 t) (castGu (iblk m a c 1 t)) (iblk m a c 2 t) (castDown (iblk m a c 3 t)) (iblk m a c 4 t))

/-- What the body carries to point `t`: the scratches at the rounded weights of the last point in use before `t` (anything
    before the first), the generator register, and the tables. -/
def carry (hR : Routed (beT a) (nuT a)) (c : Dev nD) (t : ℕ) : sProp 𝕄 :=
  iprop((∃ s0 s1, ⌜0 < t → s0 = castGu (iblk m a c 1 (pt a hR (t - 1))) ∧ s1 = castDown (iblk m a c 3 (pt a hR (t - 1)))⌝
      ∗ owns (c : Thread nD τ) (Memref.whole cc0_scratch0) fullShare s0 ∗ owns (c : Thread nD τ) (Memref.whole cc0_scratch1) fullShare s1)
    ∗ (∃ r, prngReg c r)
    ∗ owns (c : Thread nD τ) (Memref.whole main_v19) fullShare.right (beT a) ∗ owns (c : Thread nD τ) (Memref.whole main_v21) fullShare.right (nuT a))

/-- The proof data of the pipeline on core `c`: the arrays as the region finds them; after the body at point `t` each input's
    buffer at its block and the output's at the result block of the last point in use. -/
def dats (hR : Routed (beT a) (nuT a)) (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => res m a c (pt a hR t.val)
  Φ t := carry m a hR c t.val
  q _ := fullShare
  owed _ := 0

theorem A_eq (c : Dev nD) (w : Fin (cfg0 a).W) : (dats m a hR 0 c).A w = V m c (Pipeline.arrRef spec0 w) := by
  dsimp only [dats]

theorem after0_0 (c : Dev nD) (t : Fin (cfg0 a).N) : (dats m a hR 0 c).after 0 t = iblk m a c 0 t := rfl
theorem after0_1 (c : Dev nD) (t : Fin (cfg0 a).N) : (dats m a hR 0 c).after 1 t = iblk m a c 1 t := rfl
theorem after0_2 (c : Dev nD) (t : Fin (cfg0 a).N) : (dats m a hR 0 c).after 2 t = iblk m a c 2 t := rfl
theorem after0_3 (c : Dev nD) (t : Fin (cfg0 a).N) : (dats m a hR 0 c).after 3 t = iblk m a c 3 t := rfl
theorem after0_4 (c : Dev nD) (t : Fin (cfg0 a).N) : (dats m a hR 0 c).after 4 t = iblk m a c 4 t := rfl
theorem after0_5 (c : Dev nD) (t : Fin (cfg0 a).N) : (dats m a hR 0 c).after 5 t = res m a c (pt a hR t.val) := rfl

/-- A block fetched for an input is the block of its array. -/
theorem fetched0_0 (c : Dev nD) (t : Fin (cfg0 a).N) (d) : (dats m a hR 0 c).fetched 0 t d = iblk m a c 0 t := by
  unfold Dat.fetched Dat.blockOf iblk; rw [A_eq]; try rfl
theorem fetched0_1 (c : Dev nD) (t : Fin (cfg0 a).N) (d) : (dats m a hR 0 c).fetched 1 t d = iblk m a c 1 t := by
  unfold Dat.fetched Dat.blockOf iblk; rw [A_eq]; try rfl
theorem fetched0_2 (c : Dev nD) (t : Fin (cfg0 a).N) (d) : (dats m a hR 0 c).fetched 2 t d = iblk m a c 2 t := by
  unfold Dat.fetched Dat.blockOf iblk; rw [A_eq]; try rfl
theorem fetched0_3 (c : Dev nD) (t : Fin (cfg0 a).N) (d) : (dats m a hR 0 c).fetched 3 t d = iblk m a c 3 t := by
  unfold Dat.fetched Dat.blockOf iblk; rw [A_eq]; try rfl
theorem fetched0_4 (c : Dev nD) (t : Fin (cfg0 a).N) (d) : (dats m a hR 0 c).fetched 4 t d = iblk m a c 4 t := by
  unfold Dat.fetched Dat.blockOf iblk; rw [A_eq]; try rfl

/-- Each input's current staging buffer holds its block at every point, fetched there or not. -/
theorem before0_0 (c : Dev nD) (t : Fin (cfg0 a).N) (d) : (dats m a hR 0 c).before 0 t d = iblk m a c 0 t :=
  ((dats m a hR 0 c).before_in_eq_fetched 0 rfl (fun _ => rfl) (fun _ _ _ => rfl) (fun t => by rw [after0_0]; unfold Dat.blockOf iblk; rw [A_eq]; try rfl) t d).trans (fetched0_0 m a hR c t d)
theorem before0_1 (c : Dev nD) (t : Fin (cfg0 a).N) (d) : (dats m a hR 0 c).before 1 t d = iblk m a c 1 t :=
  ((dats m a hR 0 c).before_in_eq_fetched 1 rfl (fun _ => rfl) (fun _ _ _ => rfl) (fun t => by rw [after0_1]; unfold Dat.blockOf iblk; rw [A_eq]; try rfl) t d).trans (fetched0_1 m a hR c t d)
theorem before0_2 (c : Dev nD) (t : Fin (cfg0 a).N) (d) : (dats m a hR 0 c).before 2 t d = iblk m a c 2 t :=
  ((dats m a hR 0 c).before_in_eq_fetched 2 rfl (fun _ => rfl) (fun _ _ _ => rfl) (fun t => by rw [after0_2]; unfold Dat.blockOf iblk; rw [A_eq]; try rfl) t d).trans (fetched0_2 m a hR c t d)
theorem before0_3 (c : Dev nD) (t : Fin (cfg0 a).N) (d) : (dats m a hR 0 c).before 3 t d = iblk m a c 3 t :=
  ((dats m a hR 0 c).before_in_eq_fetched 3 rfl (fun _ => rfl) (fun _ _ _ => rfl) (fun t => by rw [after0_3]; unfold Dat.blockOf iblk; rw [A_eq]; try rfl) t d).trans (fetched0_3 m a hR c t d)
theorem before0_4 (c : Dev nD) (t : Fin (cfg0 a).N) (d) : (dats m a hR 0 c).before 4 t d = iblk m a c 4 t :=
  ((dats m a hR 0 c).before_in_eq_fetched 4 rfl (fun _ => rfl) (fun _ _ _ => rfl) (fun t => by rw [after0_4]; unfold Dat.blockOf iblk; rw [A_eq]; try rfl) t d).trans (fetched0_4 m a hR c t d)

/-! ## The output's window: which block it is on, where it is left alone, where it is written back -/

include hR in
/-- The output's block is the point's own while in use, the last one in use after. -/
theorem index5 (t : Fin (cfg0 a).N) : ((cfg0 a).win 5).index t = ![min t.val (used (nuT a) - 1), 0] := by
  show cc0_transform_5 _ _ a.1 (grid0.coords t) = _
  have h := rowBlock (nuT a) hR.first hR.small (grid0.coords t)
  show ![(Scalar.minsi (BitVec.ofNat 32 (grid0.coords t 0).val) (Scalar.subi (nuWord (nuT a)) 1#32)).toNat, 0] = _
  rw [h, coords_val]

/-- A weight window's block is the point's expert. -/
theorem index1 (t : Fin (cfg0 a).N) : ((cfg0 a).win 1).index t = ![0, (beWord (beT a) (grid0.coords t)).toNat, 0, 0] := rfl
theorem index3 (t : Fin (cfg0 a).N) : ((cfg0 a).win 3).index t = ![0, (beWord (beT a) (grid0.coords t)).toNat, 0, 0] := rfl

include hR in
/-- The output is left alone exactly at the points not in use. -/
theorem idle5 (t : Fin (cfg0 a).N) : (cfg0 a).idle 5 ((cfg0 a).grid.coords t) = decide (used (nuT a) ≤ t.val) := by
  have h := used_iff (nuT a) hR.small (grid0.coords t)
  rw [coords_val] at h
  have hd : a.1.atD 1 ![0] = nuWord (nuT a) := by
    unfold nuWord
    refine (dif_pos (show ∀ x : Fin 1, (![0] : Fin 1 → ℕ) x + 1 ≤ S1.size x by decide)).trans ?_
    exact congrArg (nuT a) (funext fun x => Fin.ext (by fin_cases x; rfl))
  show (!(k0_cond1 (grid0.coords t) (a.1.atD 1 ![0]) == 1#1)) = _
  rw [hd]
  by_cases hu : t.val < used (nuT a)
  · rw [h.mpr hu]; rw [decide_eq_false (by omega)]; rfl
  · have : k0_cond1 (grid0.coords t) (nuWord (nuT a)) ≠ 1#1 := fun e => hu (h.mp e)
    rw [decide_eq_true (by omega), beq_eq_false_iff_ne.mpr this]; rfl

include hR in
/-- From the last point in use on, only the last point of all writes the block back. -/
theorem flush5_off (t : Fin (cfg0 a).N) (h : used (nuT a) ≤ t.val + 1) (hl : t.val + 1 < 288) : ((cfg0 a).win 5).flush t = false := by
  unfold Pipeline.Window.flush
  have hN : (cfg0 a).grid.N = 288 := N_0
  rw [show ((cfg0 a).win 5).isOut = true from rfl, Bool.true_and, Bool.or_eq_false_iff]
  refine ⟨decide_eq_false (fun e => by have e' := e.trans hN; omega), decide_eq_false ?_⟩
  rintro ⟨h', hne⟩
  apply hne
  rw [index5 a hR, index5 a hR]
  show ![min (t.val + 1) _, 0] = _
  rw [Nat.min_eq_right (by omega), Nat.min_eq_right (by omega)]

include hR in
/-- Where the point after works on another block, or there is none, the block is written back. -/
theorem flush5_on (t : Fin (cfg0 a).N) (h : t.val + 1 < used (nuT a)) : ((cfg0 a).win 5).flush t = true := by
  unfold Pipeline.Window.flush
  have hle := hR.le
  rw [show ((cfg0 a).win 5).isOut = true from rfl, Bool.true_and, Bool.or_eq_true_iff]
  refine Or.inr (decide_eq_true ⟨lt_of_lt_of_eq (show t.val + 1 < 288 by omega) N_0.symm, ?_⟩)
  rw [index5 a hR, index5 a hR]
  intro e
  have e0 := congrFun e 0
  change min (t.val + 1) _ = min t.val _ at e0
  omega

/-- The last point writes the block back. -/
theorem flush5_last (t : Fin (cfg0 a).N) (h : t.val + 1 = 288) : ((cfg0 a).win 5).flush t = true := by
  unfold Pipeline.Window.flush
  rw [show ((cfg0 a).win 5).isOut = true from rfl, Bool.true_and, Bool.or_eq_true_iff]
  exact Or.inl (decide_eq_true (h.trans N_0.symm))

/-- Past the points in use the output's buffer holds the result block of the last of them. -/
theorem before0_5 (c : Dev nD) (t : Fin (cfg0 a).N) (h : used (nuT a) ≤ t.val) (d) :
    (dats m a hR 0 c).before 5 t d = res m a c (pt a hR t.val) := by
  have hpos := hR.pos
  have hlt : t.val < 288 := lt_of_lt_of_eq t.isLt N_0
  have hrun := (dats m a hR 0 c).before_idle_run 5 (fun t => Pipeline.Window.fetch_out ((cfg0 a).win 5) rfl t) d (t.val - used (nuT a)) t (by omega)
    (fun j h1 h2 => ⟨by rw [idle5 a hR]; exact decide_eq_true (by omega), flush5_off a hR j (by omega) (by omega)⟩)
  rw [hrun, (dats m a hR 0 c).before_of_pos 5 _ (by simp only; omega) (Pipeline.Window.fetch_out ((cfg0 a).win 5) rfl _),
    if_neg (by rw [flush5_off a hR _ (by simp only; omega) (by simp only; omega)]; exact Bool.false_ne_true)]
  unfold Dat.left
  rw [idle5 a hR, decide_eq_false (by simp only; omega)]
  show (dats m a hR 0 c).after 5 _ = _
  rw [after0_5]
  unfold pt
  congr 2
  simp only
  omega

end Cert.KernelIdeal.Gen

end
-- ==== Proof.Experts.Run.lean ====
module

public import proofs.«01_k».proof.Proof.Experts.Data
public import Idealize.ShloMosaic.Lib.WordArith
public import Idealize.ShloMosaic.Lib.StableHlo.Predicate

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a : (pcfg0 (F := F)).Adm) (hR : Routed (beT a) (nuT a))

/-! ## The body obligation -/

/-! ## The body's run by cases -/

/-- The run of the body at a point in use. -/
theorem sound_used (c : Dev nD) (E : Set ℕ) (i : grid0.Coords)
    (arg1 : Memref sig .tc .smem S288 .i32) (harg1 : arg1.IsWhole) (arg2 : Memref sig .tc .smem S1 .i32) (harg2 : arg2.IsWhole)
    (arg3 : Memref sig .tc .vmem S4096x128 .f32) (harg3 : arg3.IsWhole) (arg4 : Memref sig .tc .vmem S1x1x1024x2048 .f32) (harg4 : arg4.IsWhole)
    (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S4096x128 .f32) (harg8 : arg8.IsWhole)
    (arg9 : Memref sig .tc .vmem S1024x2048 .bf16) (harg9 : arg9.IsWhole) (arg10 : Memref sig .tc .vmem S1024x1024 .bf16) (harg10 : arg10.IsWhole)
    (be : Vec F S288 .i32) (nu : Vec F S1 .i32) (hc : k0_cond1 i (nuWord nu) = 1#1) (q : PosShare TreeShare)
    (x0 : Vec F S4096x128 .f32) (x1 : Vec F S1x1x1024x2048 .f32) (x2 : Vec F S1x1x1x2048 .f32) (x3 : Vec F S1x1x1024x1024 .f32) (x4 : Vec F S1x1x1x1024 .f32)
    (d8 : Vec F S4096x128 .f32) (d9 : Vec F S1024x2048 .bf16) (d10 : Vec F S1024x1024 .bf16)
    (K : PUnit → sProp 𝕄) :
    iprop(owns (c : Thread nD τ) arg1 q be ∗ owns (c : Thread nD τ) arg2 q nu ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare d8 ∗ owns (c : Thread nD τ) arg9 fullShare d9 ∗ owns (c : Thread nD τ) arg10 fullShare d10
        ∗ (iprop(owns (c : Thread nD τ) arg1 q be ∗ owns (c : Thread nD τ) arg2 q nu ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
              ∗ owns (c : Thread nD τ) arg8 fullShare (tileRows (outVals x0 (gu1 i be x1 d9) x2 (dn1 i be x3 d10) x4))
              ∗ owns (c : Thread nD τ) arg9 fullShare (gu1 i be x1 d9)
              ∗ owns (c : Thread nD τ) arg10 fullShare (dn1 i be x3 d10)) -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10) K := by
  have h := sound_kernel c E i arg1 harg1 arg2 harg2 arg3 harg3 arg4 harg4 arg5 harg5 arg6 harg6 arg7 harg7 arg8 harg8 arg9 harg9 arg10 harg10 be nu q x0 x1 x2 x3 x4 d8 d9 d10 K
  rw [if_pos hc, if_pos hc, if_pos hc] at h
  exact h

/-- The run of the body at a point not in use: nothing changes. -/
theorem sound_unused (c : Dev nD) (E : Set ℕ) (i : grid0.Coords)
    (arg1 : Memref sig .tc .smem S288 .i32) (harg1 : arg1.IsWhole) (arg2 : Memref sig .tc .smem S1 .i32) (harg2 : arg2.IsWhole)
    (arg3 : Memref sig .tc .vmem S4096x128 .f32) (harg3 : arg3.IsWhole) (arg4 : Memref sig .tc .vmem S1x1x1024x2048 .f32) (harg4 : arg4.IsWhole)
    (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S4096x128 .f32) (harg8 : arg8.IsWhole)
    (arg9 : Memref sig .tc .vmem S1024x2048 .bf16) (harg9 : arg9.IsWhole) (arg10 : Memref sig .tc .vmem S1024x1024 .bf16) (harg10 : arg10.IsWhole)
    (be : Vec F S288 .i32) (nu : Vec F S1 .i32) (hc : ¬ k0_cond1 i (nuWord nu) = 1#1) (q : PosShare TreeShare)
    (x0 : Vec F S4096x128 .f32) (x1 : Vec F S1x1x1024x2048 .f32) (x2 : Vec F S1x1x1x2048 .f32) (x3 : Vec F S1x1x1024x1024 .f32) (x4 : Vec F S1x1x1x1024 .f32)
    (d8 : Vec F S4096x128 .f32) (d9 : Vec F S1024x2048 .bf16) (d10 : Vec F S1024x1024 .bf16)
    (K : PUnit → sProp 𝕄) :
    iprop(owns (c : Thread nD τ) arg1 q be ∗ owns (c : Thread nD τ) arg2 q nu ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare d8 ∗ owns (c : Thread nD τ) arg9 fullShare d9 ∗ owns (c : Thread nD τ) arg10 fullShare d10
        ∗ (iprop(owns (c : Thread nD τ) arg1 q be ∗ owns (c : Thread nD τ) arg2 q nu ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
              ∗ owns (c : Thread nD τ) arg8 fullShare d8
              ∗ owns (c : Thread nD τ) arg9 fullShare d9
              ∗ owns (c : Thread nD τ) arg10 fullShare d10) -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10) K := by
  have h := sound_kernel c E i arg1 harg1 arg2 harg2 arg3 harg3 arg4 harg4 arg5 harg5 arg6 harg6 arg7 harg7 arg8 harg8 arg9 harg9 arg10 harg10 be nu q x0 x1 x2 x3 x4 d8 d9 d10 K
  rw [if_neg hc, if_neg hc, if_neg hc] at h
  exact h

/-! The current staging memref of each window at point `t`. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)
abbrev st0_5 (t : Fin (cfg0 a).N) := ((cfg0 a).win 5).stage ((cfg0 a).slots t 5)

/-- The kernel body at point `t`, on what the pipeline calls it with. -/
abbrev bodyAt0 (t : Fin (cfg0 a).N) : Prog (TpuEff nD τ sig (Elt F) Λ₀ .tc) PUnit :=
  cc0_moe_experts (grid0.coords t) (Memref.whole main_v19) (Memref.isWhole_whole _) (Memref.whole main_v21) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))
    (Memref.whole cc0_scratch0) (Memref.isWhole_whole _) (Memref.whole cc0_scratch1) (Memref.isWhole_whole _)

/-- The body table's row at point `t`'s slots is the body as `bodyAt0` spells it. -/
theorem defs₀_row (t : Fin (cfg0 a).N) :
    defs₀ (F := F) .tc (cfg0 a).body ((cfg0 a).bodyArgs t ((cfg0 a).slots t)) = bodyAt0 a t := by
  unfold defs₀; rw [Defs.onTc_tc]

/-- A point in use is its own last point in use. -/
theorem pt_used (t : Fin (cfg0 a).N) (h : t.val < used (nuT a)) : pt a hR t.val = t :=
  Fin.ext (Nat.min_eq_left (by omega))

/-- Past the points in use the last of them does not move. -/
theorem pt_unused (t : Fin (cfg0 a).N) (h : used (nuT a) ≤ t.val) : pt a hR (t.val - 1) = pt a hR t.val :=
  Fin.ext (by show min _ _ = min _ _; omega)

include hR in
/-- Two points of one expert see the same gate-and-up weights, -/
theorem iblk1_congr (c : Dev nD) (t t' : Fin (cfg0 a).N) (h : beWord (beT a) (grid0.coords t) = beWord (beT a) (grid0.coords t')) :
    iblk m a c 1 t = iblk m a c 1 t' := by
  rw [← fetched0_1 m a hR c t (iblk m a c 1 t), ← fetched0_1 m a hR c t' (iblk m a c 1 t)]
  exact (dats m a hR 0 c).fetched_congr 1 ((index1 a t).trans ((congrArg (fun x : BitVec 32 => (![0, x.toNat, 0, 0] : Fin 4 → ℕ)) h).trans (index1 a t').symm)) rfl _
include hR in
/-- and the same down weights. -/
theorem iblk3_congr (c : Dev nD) (t t' : Fin (cfg0 a).N) (h : beWord (beT a) (grid0.coords t) = beWord (beT a) (grid0.coords t')) :
    iblk m a c 3 t = iblk m a c 3 t' := by
  rw [← fetched0_3 m a hR c t (iblk m a c 3 t), ← fetched0_3 m a hR c t' (iblk m a c 3 t)]
  exact (dats m a hR 0 c).fetched_congr 3 ((index3 a t).trans ((congrArg (fun x : BitVec 32 => (![0, x.toNat, 0, 0] : Fin 4 → ℕ)) h).trans (index3 a t').symm)) rfl _

/-- After a point in use the first scratch holds the point's weights, rounded there or kept from the point before. -/
theorem gu1_eq (c : Dev nD) (t : Fin (cfg0 a).N) (ht : t.val < used (nuT a)) (s0 : Vec F S1024x2048 .bf16)
    (h : 0 < t.val → s0 = castGu (iblk m a c 1 (pt a hR (t.val - 1)))) :
    gu1 (grid0.coords t) (beT a) (iblk m a c 1 t) s0 = castGu (iblk m a c 1 t) := by
  unfold gu1
  split
  · rfl
  · rename_i hr
    obtain ⟨h0, he⟩ := kept_of_not_reload _ _ hr
    have h0' : t.val ≠ 0 := fun e => h0 (by rw [coords_val]; exact e)
    rw [h (by omega)]
    have hp : (pt a hR (t.val - 1)).val = t.val - 1 := by show min _ _ = _; omega
    rw [iblk1_congr m a hR c (pt a hR (t.val - 1)) t]
    rw [he]
    exact (bePrev_eq _ _ _ h0 (by rw [coords_val, coords_val, hp])).symm

/-- After a point in use the second scratch holds the point's weights likewise. -/
theorem dn1_eq (c : Dev nD) (t : Fin (cfg0 a).N) (ht : t.val < used (nuT a)) (s1 : Vec F S1024x1024 .bf16)
    (h : 0 < t.val → s1 = castDown (iblk m a c 3 (pt a hR (t.val - 1)))) :
    dn1 (grid0.coords t) (beT a) (iblk m a c 3 t) s1 = castDown (iblk m a c 3 t) := by
  unfold dn1
  split
  · rfl
  · rename_i hr
    obtain ⟨h0, he⟩ := kept_of_not_reload _ _ hr
    have h0' : t.val ≠ 0 := fun e => h0 (by rw [coords_val]; exact e)
    rw [h (by omega)]
    have hp : (pt a hR (t.val - 1)).val = t.val - 1 := by show min _ _ = _; omega
    rw [iblk3_congr m a hR c (pt a hR (t.val - 1)) t]
    rw [he]
    exact (bePrev_eq _ _ _ h0 (by rw [coords_val, coords_val, hp])).symm

/-- What the body is called with at point `t`, the windows one by one, -/
def bodyPre (c : Dev nD) (t : Fin (cfg0 a).N) : sProp 𝕄 :=
  iprop((dats m a hR 0 c).Φ t.castSucc ∗ (dats m a hR 0 c).owesAt () t.castSucc
    ∗ (∃ d, owns (c : Thread nD τ) (st0_0 a t) fullShare ((dats m a hR 0 c).before 0 t d))
    ∗ (∃ d, owns (c : Thread nD τ) (st0_1 a t) fullShare ((dats m a hR 0 c).before 1 t d))
    ∗ (∃ d, owns (c : Thread nD τ) (st0_2 a t) fullShare ((dats m a hR 0 c).before 2 t d))
    ∗ (∃ d, owns (c : Thread nD τ) (st0_3 a t) fullShare ((dats m a hR 0 c).before 3 t d))
    ∗ (∃ d, owns (c : Thread nD τ) (st0_4 a t) fullShare ((dats m a hR 0 c).before 4 t d))
    ∗ (∃ d, owns (c : Thread nD τ) (st0_5 a t) fullShare ((dats m a hR 0 c).before 5 t d)))

/-- what it leaves in the output's buffer: as found where the point is not in use and writes nothing back, else the result block, -/
def post5 (c : Dev nD) (t : Fin (cfg0 a).N) : sProp 𝕄 :=
  match (cfg0 a).idle 5 ((cfg0 a).grid.coords t) with
  | true => match ((cfg0 a).win 5).flush t with
    | false => iprop(∃ d, owns (c : Thread nD τ) (st0_5 a t) fullShare ((dats m a hR 0 c).before 5 t d))
    | true => owns (c : Thread nD τ) (st0_5 a t) fullShare ((dats m a hR 0 c).after 5 t)
  | false => owns (c : Thread nD τ) (st0_5 a t) fullShare ((dats m a hR 0 c).after 5 t)

/-- and what it returns. -/
def bodyPost (c : Dev nD) (t : Fin (cfg0 a).N) : sProp 𝕄 :=
  iprop((dats m a hR 0 c).Φ t.succ ∗ (dats m a hR 0 c).owesAt () t.succ
    ∗ owns (c : Thread nD τ) (st0_0 a t) fullShare ((dats m a hR 0 c).after 0 t)
    ∗ owns (c : Thread nD τ) (st0_1 a t) fullShare ((dats m a hR 0 c).after 1 t)
    ∗ owns (c : Thread nD τ) (st0_2 a t) fullShare ((dats m a hR 0 c).after 2 t)
    ∗ owns (c : Thread nD τ) (st0_3 a t) fullShare ((dats m a hR 0 c).after 3 t)
    ∗ owns (c : Thread nD τ) (st0_4 a t) fullShare ((dats m a hR 0 c).after 4 t)
    ∗ post5 m a hR c t)

/-- At a point not in use the output's buffer is found at the result block of the last point in use. -/
theorem own5_eq (c : Dev nD) (t : Fin (cfg0 a).N) (h : used (nuT a) ≤ t.val) (d) :
    (owns (c : Thread nD τ) (st0_5 a t) fullShare ((dats m a hR 0 c).before 5 t d) : sProp 𝕄)
      = owns (c : Thread nD τ) (st0_5 a t) fullShare (res m a c (pt a hR t.val)) :=
  congrArg (fun x => owns (c : Thread nD τ) (st0_5 a t) fullShare x) (before0_5 m a hR c t h d)

/-- The result block of the last point in use is what the output's buffer may be left at. -/
theorem post5_of (c : Dev nD) (t : Fin (cfg0 a).N) :
    owns (c : Thread nD τ) (st0_5 a t) fullShare (res m a c (pt a hR t.val)) ⊢ (post5 m a hR c t : sProp 𝕄) := by
  unfold post5
  rw [idle5 a hR, after0_5]
  by_cases hu : t.val < used (nuT a)
  · rw [decide_eq_false (by omega), pt_used a hR t hu]
  · rw [decide_eq_true (by omega)]
    dsimp only
    split
    · iintro H
      iexists (res m a c (pt a hR t.val))
      ihave H' := (Entails.of_eq (own5_eq m a hR c t (by omega) (res m a c (pt a hR t.val))).symm) $$ H
      iexact H'
    · exact .rfl

set_option maxHeartbeats 1600000 in
/-- The body at any point: the run of `sound_kernel`, the scratches and the result block named by the point. -/
theorem sound_body (c : Dev nD) (t : Fin (cfg0 a).N) :
    bodyPre m a hR c t ⊢ wp frame (wpE (defs₀ (F := F)) Variants.none c none) Set.univ (bodyAt0 a t) (fun _ => bodyPost m a hR c t) := by
  unfold bodyPre bodyPost bodyAt0
  simp only [before0_0, before0_1, before0_2, before0_3, before0_4]
  rw [show (dats m a hR 0 c).Φ t.succ = carry m a hR c (t.val + 1) from rfl, show (dats m a hR 0 c).Φ t.castSucc = carry m a hR c t.val from rfl,
    show (dats m a hR 0 c).owesAt () t.succ = (dats m a hR 0 c).owesAt () t.castSucc from rfl,
    after0_0, after0_1, after0_2, after0_3, after0_4]
  unfold carry
  have hpos := hR.pos
  iintro ⟨⟨⟨%s0, %s1, %hs, S0, S1⟩, Hp, Hb, Hn⟩, Ho, ⟨%d0, H0⟩, ⟨%d1, H1⟩, ⟨%d2, H2⟩, ⟨%d3, H3⟩, ⟨%d4, H4⟩, ⟨%d5, H5⟩⟩
  have hused := used_iff (nuT a) hR.small (grid0.coords t)
  rw [coords_val] at hused
  by_cases hu : t.val < used (nuT a)
  · iapply (sound_used c Set.univ (grid0.coords t) _ _ _ _ _ _ _ _ _ _ _ _ _ _ _ _ _ _ _ _ (beT a) (nuT a) (hused.mpr hu) fullShare.right (iblk m a c 0 t) (iblk m a c 1 t) (iblk m a c 2 t) (iblk m a c 3 t) (iblk m a c 4 t) ((dats m a hR 0 c).before 5 t d5) s0 s1 _)
    isplitl [Hb]; · iexact Hb
    isplitl [Hn]; · iexact Hn
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    iintro ⟨Hb, Hn, H0, H1, H2, H3, H4, H5, S0, S1⟩
    rw [gu1_eq m a hR c t hu s0 (fun h => (hs h).1), dn1_eq m a hR c t hu s1 (fun h => (hs h).2)]
    isplitl [S0 S1 Hp Hb Hn]
    · isplitl [S0 S1]
      · iexists _; iexists _
        isplitr
        · ipureintro
          intro _
          rw [Nat.add_sub_cancel, pt_used a hR t hu]
          exact ⟨rfl, rfl⟩
        isplitl [S0]; · iexact S0
        iexact S1
      isplitl [Hp]; · iexact Hp
      isplitl [Hb]; · iexact Hb
      iexact Hn
    isplitl [Ho]; · iexact Ho
    isplitl [H0]; · iexact H0
    isplitl [H1]; · iexact H1
    isplitl [H2]; · iexact H2
    isplitl [H3]; · iexact H3
    isplitl [H4]; · iexact H4
    iapply (post5_of m a hR c t)
    rw [pt_used a hR t hu]
    iexact H5
  · have hn : ¬ k0_cond1 (grid0.coords t) (nuWord (nuT a)) = 1#1 := fun e => hu (hused.mp e)
    iapply (sound_unused c Set.univ (grid0.coords t) _ _ _ _ _ _ _ _ _ _ _ _ _ _ _ _ _ _ _ _ (beT a) (nuT a) hn fullShare.right (iblk m a c 0 t) (iblk m a c 1 t) (iblk m a c 2 t) (iblk m a c 3 t) (iblk m a c 4 t) ((dats m a hR 0 c).before 5 t d5) s0 s1 _)
    isplitl [Hb]; · iexact Hb
    isplitl [Hn]; · iexact Hn
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    iintro ⟨Hb, Hn, H0, H1, H2, H3, H4, H5, S0, S1⟩
    isplitl [S0 S1 Hp Hb Hn]
    · isplitl [S0 S1]
      · iexists s0; iexists s1
        isplitr
        · ipureintro
          intro _
          rw [Nat.add_sub_cancel, ← pt_unused a hR t (by omega)]
          exact hs (by omega)
        isplitl [S0]; · iexact S0
        iexact S1
      isplitl [Hp]; · iexact Hp
      isplitl [Hb]; · iexact Hb
      iexact Hn
    isplitl [Ho]; · iexact Ho
    isplitl [H0]; · iexact H0
    isplitl [H1]; · iexact H1
    isplitl [H2]; · iexact H2
    isplitl [H3]; · iexact H3
    isplitl [H4]; · iexact H4
    iapply ((Entails.of_eq (own5_eq m a hR c t (by omega) d5)).trans (post5_of m a hR c t))
    iexact H5

/-- The library's body obligation, at every point. -/
theorem body_obligation (c : Dev nD) : BodyObligationLoose (dats (F := F) m a hR 0 c) (defs₀ (F := F)) Variants.none () Set.univ := fun t => by
  rw [bigSep_W0, bigSep_W0, defs₀_row]
  exact triple_restated (sound_body m a hR c t) rfl .rfl fun _ => .rfl

/-! ## The run -/

/-- The tables as the pipeline hands them to the body. -/
theorem tables_eq (c : Dev nD) :
    (Pipeline.ΦT pre0 a.1 c : sProp 𝕄)
      = iprop(owns (c : Thread nD τ) (Memref.whole main_v19) fullShare.right (beT a) ∗ owns (c : Thread nD τ) (Memref.whole main_v21) fullShare.right (nuT a)) := by
  unfold Pipeline.ΦT Pipeline.prefHeld
  rw [owns_whole, owns_whole]
  exact bigSep_univ_eq_bigSepL [(0 : Fin 2), (1 : Fin 2)] (by decide) (by decide) _

set_option backward.isDefEq.respectTransparency.types false in
set_option maxHeartbeats 800000 in
/-- The launch: every weakly fair execution terminates, each window's array ends at what the proof data say, every other
    buffer as the region found it, and every semaphore counter at zero. -/
theorem run_main_quiescent (hpf : ∀ c k, V m c (pre0.ref k) = a.1 k) :
    θ_run defs (onTc (τ := τ) (main (F := F))) (s₀ m ρ) (fun r => (Pipeline.FramePost (Pipeline.pin pcfgs fun _ => a) (dats m a hR) 0 (V m)) r ∧ r.2.sem = fun _ => 0) :=
  Pipeline.θ_run_frameP_track (Q' := _) pcfgs (fun _ => a) (dats m a hR) (0 : Fin 1) launch0 defs₀ Variants.none m ρ main
    (hbody := fun c => body_obligation m a hR c) (hshare := fun c => (dats m a hR 0 c).share_full fun _ => rfl)
    (howed := fun _ _ => rfl) (V := V m) (hmain := hmain m Variants.none) (hA := A_eq m a hR) (hpf := hpf)
    (hin := fun c => by
      rw [tables_eq]
      unfold Pipeline.ΦA
      rw [scopedRest0_eq]
      show _ ⊢ carry m a hR c 0
      unfold carry
      iintro ⟨⟨⟨⟨%f, S0⟩, ⟨%g, S1⟩⟩, Hp⟩, Ht⟩
      isplitl [S0 S1]
      · iexists f; iexists g
        rw [owns_whole, owns_whole]
        isplitr; · ipureintro; exact fun h => absurd h (lt_irrefl _)
        isplitl [S0]; · iexact S0
        iexact S1
      isplitl [Hp]; · iexact Hp
      iexact Ht)
    (hout := fun c => by
      unfold Pipeline.ΦA
      rw [scopedRest0_eq]
      show carry m a hR c _ ⊢ (_ : sProp 𝕄)
      unfold carry
      iintro ⟨⟨%s0, %s1, %hs, S0, S1⟩, Hp, Ht⟩
      ihave S0' := (Entails.of_eq (owns_whole _ _ _ _)) $$ S0
      ihave S1' := (Entails.of_eq (owns_whole _ _ _ _)) $$ S1
      isplitl [S0' S1']
      · isplitl [S0']
        · iexists s0; iexact S0'
        · iexists s1; iexact S1'
      iexact Hp)

end Cert.KernelIdeal.Gen

end
-- ==== Proof.Experts.Host.lean ====
module

public import proofs.«01_k».proof.Proof.Experts.Data

@[expose] public section

set_option maxRecDepth 16384
set_option maxHeartbeats 51200000

noncomputable section

namespace Cert.KernelIdeal.Gen

open Idealize.ShloMosaic Idealize.ShloMosaic.TcCoe Idealize.ShloMosaic.Tactic

variable {F : FTy → Type} [FloatOps F]

variable (m : (ℓ : Loc nD τ sig) → Buf (Elt F) ℓ)

/-! ## What the host leaves in each array -/

/-- Argument 0 is as the launch found it. -/
theorem V_arg0 (c : Dev nD) : V m c main_arg0 = m ((c : Thread nD τ).loc main_arg0) := by
  simp only [V, hostOpss, hostOps0, hostOps0_1, hostOps0_2, hostOps0_3, hostOps0_4, hostOps0_5, hostOps0_6, List.flatten_cons, List.flatten_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- Argument 1 is as the launch found it. -/
theorem V_arg1 (c : Dev nD) : V m c main_arg1 = m ((c : Thread nD τ).loc main_arg1) := by
  simp only [V, hostOpss, hostOps0, hostOps0_1, hostOps0_2, hostOps0_3, hostOps0_4, hostOps0_5, hostOps0_6, List.flatten_cons, List.flatten_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- Argument 2 is as the launch found it. -/
theorem V_arg2 (c : Dev nD) : V m c main_arg2 = m ((c : Thread nD τ).loc main_arg2) := by
  simp only [V, hostOpss, hostOps0, hostOps0_1, hostOps0_2, hostOps0_3, hostOps0_4, hostOps0_5, hostOps0_6, List.flatten_cons, List.flatten_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- Argument 3 is as the launch found it. -/
theorem V_arg3 (c : Dev nD) : V m c main_arg3 = m ((c : Thread nD τ).loc main_arg3) := by
  simp only [V, hostOpss, hostOps0, hostOps0_1, hostOps0_2, hostOps0_3, hostOps0_4, hostOps0_5, hostOps0_6, List.flatten_cons, List.flatten_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- Argument 4 is as the launch found it. -/
theorem V_arg4 (c : Dev nD) : V m c main_arg4 = m ((c : Thread nD τ).loc main_arg4) := by
  simp only [V, hostOpss, hostOps0, hostOps0_1, hostOps0_2, hostOps0_3, hostOps0_4, hostOps0_5, hostOps0_6, List.flatten_cons, List.flatten_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- Argument 5 is as the launch found it. -/
theorem V_arg5 (c : Dev nD) : V m c main_arg5 = m ((c : Thread nD τ).loc main_arg5) := by
  simp only [V, hostOpss, hostOps0, hostOps0_1, hostOps0_2, hostOps0_3, hostOps0_4, hostOps0_5, hostOps0_6, List.flatten_cons, List.flatten_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The table of the blocks' experts, -/
theorem V_v19 (c : Dev nD) : V m c main_v19 = expertOf (m ((c : Thread nD τ).loc main_arg0)) := by
  simp only [V, hostOpss, hostOps0, hostOps0_1, hostOps0_2, hostOps0_3, hostOps0_4, hostOps0_5, hostOps0_6, List.flatten_cons, List.flatten_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- and the number of blocks in use. -/
theorem V_v21 (c : Dev nD) : V m c main_v21 = blocksOf (m ((c : Thread nD τ).loc main_arg0)) := by
  simp only [V, hostOpss, hostOps0, hostOps0_1, hostOps0_2, hostOps0_3, hostOps0_4, hostOps0_5, hostOps0_6, List.flatten_cons, List.flatten_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The slot rows, as tiles. -/
theorem V_v22 (c : Dev nD) : V m c main_v22 = shapeCast S1179648x128 (m ((c : Thread nD τ).loc main_arg1)) shapeCasts_S147456x1024_S1179648x128 := by
  simp only [V, hostOpss, hostOps0, hostOps0_1, hostOps0_2, hostOps0_3, hostOps0_4, hostOps0_5, hostOps0_6, List.flatten_cons, List.flatten_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The gate-and-up biases, -/
theorem V_v23 (c : Dev nD) : V m c main_v23 = shapeCast S4x32x1x2048 (m ((c : Thread nD τ).loc main_arg3)) shapeCasts_S4x32x2048_S4x32x1x2048 := by
  simp only [V, hostOpss, hostOps0, hostOps0_1, hostOps0_2, hostOps0_3, hostOps0_4, hostOps0_5, hostOps0_6, List.flatten_cons, List.flatten_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- the down biases. -/
theorem V_v24 (c : Dev nD) : V m c main_v24 = shapeCast S4x32x1x1024 (m ((c : Thread nD τ).loc main_arg5)) shapeCasts_S4x32x1024_S4x32x1x1024 := by
  simp only [V, hostOpss, hostOps0, hostOps0_1, hostOps0_2, hostOps0_3, hostOps0_4, hostOps0_5, hostOps0_6, List.flatten_cons, List.flatten_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

end Cert.KernelIdeal.Gen

end
-- ==== Proof.Experts.Frame.lean ====
module

public import proofs.«01_k».proof.Proof.Experts.Run
public import proofs.«01_k».proof.Proof.Experts.Host
public import proofs.«01_k».proof.Proof.Gen.Pre_routed
public import Idealize.ShloMosaic.Lib.WordArith
public import Idealize.ShloMosaic.Lib.StableHlo.Predicate

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The precondition in numbers -/

/-- The precondition set: the tables computed from the counts are those of a routing. -/
theorem routed_of_pre (cnt : IVec S32 32) (x1 : FVec F S147456x1024 .f32) (x2 : FVec F S4x32x1024x2048 .f32) (x3 : FVec F S4x32x2048 .f32) (x4 : FVec F S4x32x1024x1024 .f32) (x5 : FVec F S4x32x1024 .f32)
    (h : Cert.Pre_routed.fn (F := F) cnt x1 x2 x3 x4 x5 = fun _ => 1#1) : Routed (F := F) (expertOf cnt) (blocksOf cnt) := by
  have hnu : ∀ j, 1 ≤ (blocksOf cnt j).toNat ∧ (blocksOf cnt j).toNat < 2 ^ 31 := fun j => by
    have h : IntOp.cmpi .sge (blocksOf cnt j) 1#32 = 1#1 := congrFun h j
    generalize blocksOf cnt j = w at h
    rw [WordCmp.cmpi_sge_eq, WordCmp.ofBool_decide_eq_one_iff] at h
    rw [show (1#32 : BitVec 32).toInt = 1 by decide] at h
    have ht := BitVec.toInt_eq_toNat_cond w
    split at ht <;> omega
  exact routed_of_blocks cnt (hnu _).1 (hnu _).2

/-! ## The tables the region is entered with -/

/-- The tables of a routing keep every block inside its array. -/
theorem ok_of_routed (pf : pre0.Contents (Elt F)) (hR : Routed (pf 0) (pf 1)) : ok0 pf := by
  have hrow : ∀ i : grid0.Coords, ∀ a : Fin 2, ((![(Scalar.minsi (BitVec.ofNat 32 (i 0).val) (Scalar.subi (nuWord (pf 1)) 1#32)).toNat, 0] : Fin 2 → ℕ) a + 1) * S4096x128.size a ≤ S1179648x128.size a := fun i a => by
    have h := rowBlock (pf 1) hR.first hR.small i
    have hl := hR.le
    have hp := hR.pos
    rw [h]
    fin_cases a
    · show (min (i 0).val (used (pf 1) - 1) + 1) * 4096 ≤ 1179648
      omega
    · show (0 + 1) * 128 ≤ 128
      omega
  refine ⟨fun i => ⟨hrow i, Or.inl rfl⟩, fun i => ⟨fun a => ?_, Or.inl rfl⟩, fun i => ⟨fun a => ?_, Or.inl rfl⟩, fun i => ⟨fun a => ?_, Or.inl rfl⟩, fun i => ⟨fun a => ?_, Or.inl rfl⟩, fun i => ⟨hrow i, Or.inl rfl⟩⟩
  all_goals
    have he := hR.expert i
  · show ((![0, (beWord (pf 0) i).toNat, 0, 0] : Fin 4 → ℕ) a + 1) * S1x1x1024x2048.size a ≤ S4x32x1024x2048.size a
    fin_cases a
    · show (0 + 1) * 1 ≤ 4; omega
    · show ((beWord (pf 0) i).toNat + 1) * 1 ≤ 32; omega
    · show (0 + 1) * 1024 ≤ 1024; omega
    · show (0 + 1) * 2048 ≤ 2048; omega
  · show ((![0, (beWord (pf 0) i).toNat, 0, 0] : Fin 4 → ℕ) a + 1) * S1x1x1x2048.size a ≤ S4x32x1x2048.size a
    fin_cases a
    · show (0 + 1) * 1 ≤ 4; omega
    · show ((beWord (pf 0) i).toNat + 1) * 1 ≤ 32; omega
    · show (0 + 1) * 1 ≤ 1; omega
    · show (0 + 1) * 2048 ≤ 2048; omega
  · show ((![0, (beWord (pf 0) i).toNat, 0, 0] : Fin 4 → ℕ) a + 1) * S1x1x1024x1024.size a ≤ S4x32x1024x1024.size a
    fin_cases a
    · show (0 + 1) * 1 ≤ 4; omega
    · show ((beWord (pf 0) i).toNat + 1) * 1 ≤ 32; omega
    · show (0 + 1) * 1024 ≤ 1024; omega
    · show (0 + 1) * 1024 ≤ 1024; omega
  · show ((![0, (beWord (pf 0) i).toNat, 0, 0] : Fin 4 → ℕ) a + 1) * S1x1x1x1024.size a ≤ S4x32x1x1024.size a
    fin_cases a
    · show (0 + 1) * 1 ≤ 4; omega
    · show ((beWord (pf 0) i).toNat + 1) * 1 ≤ 32; omega
    · show (0 + 1) * 1 ≤ 1; omega
    · show (0 + 1) * 1024 ≤ 1024; omega

/-- The two tables the host computes on device `0` from the counts. -/
abbrev beM : Vec F S288 .i32 := expertOf (m (((0 : Dev nD) : Thread nD τ).loc main_arg0))
abbrev nuM : Vec F S1 .i32 := blocksOf (m (((0 : Dev nD) : Thread nD τ).loc main_arg0))

/-- The tables' contents, -/
def tab : pre0.Contents (Elt F)
  | ⟨0, _⟩ => beM m
  | ⟨1, _⟩ => nuM m

/-- admitted by the pipeline when they are those of a routing. -/
def adm (hR : Routed (beM m) (nuM m)) : (pcfg0 (F := F)).Adm := ⟨tab m, ok_of_routed (tab m) hR⟩

/-- The region is entered with these tables. -/
theorem tab_eq (hR : Routed (beM m) (nuM m)) (c : Dev nD) (k) : V m c (pre0.ref k) = (adm m hR).1 k := by
  have hc : c = 0 := Fin.ext (by have := c.isLt; show c.val = 0; exact Nat.lt_one_iff.mp this)
  subst hc
  fin_cases k
  · exact V_v19 m 0
  · exact V_v21 m 0

/-- The launch at these tables. -/
theorem run_of_routed (hR : Routed (beM m) (nuM m)) :
    θ_run defs (onTc (τ := τ) (main (F := F))) (s₀ m ρ) (fun r => (Pipeline.FramePost (Pipeline.pin pcfgs fun _ => adm m hR) (dats m (adm m hR) hR) 0 (V m)) r ∧ r.2.sem = fun _ => 0) :=
  run_main_quiescent m ρ (adm m hR) hR (tab_eq m hR)

/-- At the end of the launch the argument arrays are unchanged. -/
theorem args_of_post (hR : Routed (beM m) (nuM m)) (r) (h : (Pipeline.FramePost (Pipeline.pin pcfgs fun _ => adm m hR) (dats m (adm m hR) hR) 0 (V m)) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (show ∀ w : Fin 6, (spec0 w).arr.view.ref ≠ main_arg0 by decide))).trans (V_arg0 m c),
   ((h c).2 main_arg1 (Pipeline.mem_restRefs_of main_arg1 (by decide) (show ∀ w : Fin 6, (spec0 w).arr.view.ref ≠ main_arg1 by decide))).trans (V_arg1 m c),
   ((h c).1 1).trans (((dats m (adm m hR) hR 0 c).arrAt_in 1 rfl _).trans ((A_eq m (adm m hR) hR c 1).trans (V_arg2 m c))),
   ((h c).2 main_arg3 (Pipeline.mem_restRefs_of main_arg3 (by decide) (show ∀ w : Fin 6, (spec0 w).arr.view.ref ≠ main_arg3 by decide))).trans (V_arg3 m c),
   ((h c).1 3).trans (((dats m (adm m hR) hR 0 c).arrAt_in 3 rfl _).trans ((A_eq m (adm m hR) hR c 3).trans (V_arg4 m c))),
   ((h c).2 main_arg5 (Pipeline.mem_restRefs_of main_arg5 (by decide) (show ∀ w : Fin 6, (spec0 w).arr.view.ref ≠ main_arg5 by decide))).trans (V_arg5 m c)⟩

/-- The frame: every execution terminates, the argument arrays end unchanged, every semaphore counter at zero. -/
theorem frame_of_routed (hR : Routed (beM m) (nuM m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of_post m hR r h.1, h.2⟩) (run_of_routed m ρ hR)

end Cert.KernelIdeal.Gen

end
-- ==== Proof.Experts.Value.lean ====
module

public import proofs.«01_k».proof.Proof.Experts.Blocks
public import Idealize.ShloMosaic.Lib.MatmulPlain
public import Idealize.ShloMosaic.Lib.ValueIdx
public import Idealize.ShloMosaic.Lib.ValueLayout

@[expose] public section

set_option maxRecDepth 16384

noncomputable section

namespace Cert.KernelIdeal.Gen

open Idealize.ShloMosaic Idealize.ShloMosaic.TcCoe Idealize.ShloMosaic.Tactic

/-! ## One token's feed-forward step, over the extended reals -/

/-- A gated unit: the clipped up value plus one, times the clipped gate, times the gate's sigmoid at 1.702. -/
def unit (g u : EReal) : EReal :=
  (min (Ideal.ofBits .f32 0x40E00000#32) (max (Ideal.ofBits .f32 0xC0E00000#32) u) + Ideal.ofBits .f32 0x3F800000#32)
    * min g (Ideal.ofBits .f32 0x40E00000#32)
    * Ideal.logistic (Ideal.ofBits .f32 0x3FD9DB23#32 * min g (Ideal.ofBits .f32 0x40E00000#32))

/-- The gate-and-up product of a row at one column. -/
def hidden (x : Fin 1024 → EReal) (wg : Fin 1024 → Fin 2048 → EReal) (bg : Fin 2048 → EReal) (f : Fin 2048) : EReal :=
  (∑ k : Fin 1024, x k * wg k f) + bg f

/-- The activation of a row at one of the 1024 units. -/
def act (x : Fin 1024 → EReal) (wg : Fin 1024 → Fin 2048 → EReal) (bg : Fin 2048 → EReal) (f : Fin 1024) : EReal :=
  unit (hidden x wg bg ⟨f.val, by omega⟩) (hidden x wg bg ⟨1024 + f.val, by omega⟩)

/-- The feed-forward step of one row. -/
def ffn (x : Fin 1024 → EReal) (wg : Fin 1024 → Fin 2048 → EReal) (bg : Fin 2048 → EReal) (wd : Fin 1024 → Fin 1024 → EReal)
    (bd : Fin 1024 → EReal) (d : Fin 1024) : EReal :=
  (∑ f : Fin 1024, act x wg bg f * wd f d) + bd d

/-- Row `r` of a block of tiles: lanes `128 s …` lie in tile row `8 r + s`. -/
def rowOf (x0 : Vec Ideal S4096x128 .f32) (r : Fin 512) (k : Fin 1024) : EReal :=
  x0 (ix2 (n0 := 4096) (n1 := 128) ⟨8 * r.val + k.val / 128, by omega⟩ ⟨k.val % 128, by omega⟩)

/-! ## The body's block of results, entry by entry -/

/-- The eight lane chunks side by side are the rows. -/
theorem concat_lanes (x0 : Vec Ideal S4096x128 .f32) (r : Fin 512) (k : Fin 1024) :
    concatenate S512x1024 1 [⟨S512x128, shapeCast S512x128 (laneRows x0 0) shapeCasts_S512x128_S512x128⟩, ⟨S512x128, shapeCast S512x128 (laneRows x0 1) shapeCasts_S512x128_S512x128⟩, ⟨S512x128, shapeCast S512x128 (laneRows x0 2) shapeCasts_S512x128_S512x128⟩, ⟨S512x128, shapeCast S512x128 (laneRows x0 3) shapeCasts_S512x128_S512x128⟩,
      ⟨S512x128, shapeCast S512x128 (laneRows x0 4) shapeCasts_S512x128_S512x128⟩, ⟨S512x128, shapeCast S512x128 (laneRows x0 5) shapeCasts_S512x128_S512x128⟩, ⟨S512x128, shapeCast S512x128 (laneRows x0 6) shapeCasts_S512x128_S512x128⟩, ⟨S512x128, shapeCast S512x128 (laneRows x0 7) shapeCasts_S512x128_S512x128⟩]
      concatenates_S512x128_S512x128_S512x128_S512x128_S512x128_S512x128_S512x128_S512x128_S512x1024_d1 (ix2 (n0 := 512) (n1 := 1024) r k)
      = rowOf x0 r k := by
  have hk := k.isLt
  have piece : ∀ (s : Fin 8) (i : S512x128.Idx), (i 0).val = r.val → 128 * s.val + (i 1).val = k.val →
      shapeCast S512x128 (laneRows x0 s) shapeCasts_S512x128_S512x128 i = rowOf x0 r k := by
    intro s i h0 h1
    refine (shapeCast_apply _ _ i i rfl).trans ?_
    unfold laneRows rowOf
    have hi1 : (i 1).val < 128 := (i 1).isLt
    refine congrArg x0 (funext fun a => Fin.ext ?_)
    match a with
    | ⟨0, _⟩ => show s.val + 8 * (i 0).val = 8 * r.val + k.val / 128; rw [h0]; omega
    | ⟨1, _⟩ => show (i 1).val = k.val % 128; omega
  rw [concatenate_cons_apply]
  simp only [concatenateAt_cons, concatenateAt_singleton]
  have e : ((ix2 (n0 := 512) (n1 := 1024) r k) 1).val = k.val := rfl
  split_ifs with h0 h1 h2 h3 h4 h5 h6
  · exact piece 0 _ rfl (show 128 * 0 + k.val = k.val by omega)
  · have g0 : ¬ k.val < 128 := h0
    exact piece 1 _ rfl (show 128 * 1 + (k.val - 128) = k.val by omega)
  · have g1 : ¬ k.val - 128 < 128 := h1
    exact piece 2 _ rfl (show 128 * 2 + (k.val - 128 - 128) = k.val by omega)
  · have g1 : ¬ k.val - 128 - 128 < 128 := h2
    exact piece 3 _ rfl (show 128 * 3 + (k.val - 128 - 128 - 128) = k.val by omega)
  · have g1 : ¬ k.val - 128 - 128 - 128 < 128 := h3
    exact piece 4 _ rfl (show 128 * 4 + (k.val - 128 - 128 - 128 - 128) = k.val by omega)
  · have g1 : ¬ k.val - 128 - 128 - 128 - 128 < 128 := h4
    exact piece 5 _ rfl (show 128 * 5 + (k.val - 128 - 128 - 128 - 128 - 128) = k.val by omega)
  · have g1 : ¬ k.val - 128 - 128 - 128 - 128 - 128 < 128 := h5
    exact piece 6 _ rfl (show 128 * 6 + (k.val - 128 - 128 - 128 - 128 - 128 - 128) = k.val by omega)
  · have g1 : ¬ k.val - 128 - 128 - 128 - 128 - 128 - 128 < 128 := h6
    exact piece 7 _ rfl (show 128 * 7 + (k.val - 128 - 128 - 128 - 128 - 128 - 128 - 128) = k.val by omega)

/-- The zero word reads 0. -/
theorem zero_word : (FloatOps.ofBits .f32 0x00000000#32 : Ideal .f32) = 0 := by
  show Ideal.ofBits .f32 0x00000000#32 = 0
  simp [Ideal.ofBits, Ideal.ieee]

/-- The first product, entry by entry. -/
theorem pay11_apply (x0 : Vec Ideal S4096x128 .f32) (w : Vec Ideal S1024x2048 .bf16) (r : Fin 512) (f : Fin 2048) :
    k0_pay11 (laneRows x0 0) (laneRows x0 1) (laneRows x0 2) (laneRows x0 3) (laneRows x0 4) (laneRows x0 5) (laneRows x0 6) (laneRows x0 7) w
      (ix2 (n0 := 512) (n1 := 2048) r f) = ∑ k : Fin 1024, rowOf x0 r k * w (ix2 (n0 := 1024) (n1 := 2048) k f) := by
  unfold k0_pay11
  refine (Ideal.matmul_plain_apply (M := 512) (K := 1024) (N := 2048) none _ _ _ r f).trans ?_
  refine ((congrArg (· + _) zero_word).trans (zero_add _)).trans ?_
  refine Finset.sum_congr rfl fun k _ => ?_
  exact congrArg (· * _) (concat_lanes x0 r k)

/-- A bias row spread over the block's rows. -/
theorem bias2048 (x2 : Vec Ideal S1x1x1x2048 .f32) (r : Fin 512) (f : Fin 2048) :
    broadcastTo S512x2048 (shapeCast S1x2048 x2 shapeCasts_S1x1x1x2048_S1x2048) broadcasts_S1x2048_S512x2048 (ix2 (n0 := 512) (n1 := 2048) r f)
      = x2 (ix4 (n0 := 1) (n1 := 1) (n2 := 1) (n3 := 2048) 0 0 0 f) := by
  refine (ValueIdx.broadcastTo_1b_ab_apply (a := 512) (b := 2048) _ _ r f).trans ?_
  refine shapeCast_apply _ _ _ _ ?_
  rw [show S1x1x1x2048.rowMajor (ix4 (n0 := 1) (n1 := 1) (n2 := 1) (n3 := 2048) 0 0 0 f) = (⟨4, ![1, 1, 1, 2048]⟩ : Shape).rowMajor (ix4 (n0 := 1) (n1 := 1) (n2 := 1) (n3 := 2048) 0 0 0 f) from rfl,
    show S1x2048.rowMajor (ValueIdx.ix2 (0 : Fin 1) f) = (⟨2, ![1, 2048]⟩ : Shape).rowMajor (ValueIdx.ix2 (0 : Fin 1) f) from rfl,
    rowMajor_val4 _ 2048 2048 2048 rfl rfl rfl, rowMajor_val2 _ 2048 rfl]
  show 0 * 2048 + 0 * 2048 + 0 * 2048 + f.val = 0 * 2048 + f.val
  omega

/-- A bias row spread over the block's rows. -/
theorem bias1024 (x4 : Vec Ideal S1x1x1x1024 .f32) (r : Fin 512) (f : Fin 1024) :
    broadcastTo S512x1024 (shapeCast S1x1024 x4 shapeCasts_S1x1x1x1024_S1x1024) broadcasts_S1x1024_S512x1024 (ix2 (n0 := 512) (n1 := 1024) r f)
      = x4 (ix4 (n0 := 1) (n1 := 1) (n2 := 1) (n3 := 1024) 0 0 0 f) := by
  refine (ValueIdx.broadcastTo_1b_ab_apply (a := 512) (b := 1024) _ _ r f).trans ?_
  refine shapeCast_apply _ _ _ _ ?_
  rw [show S1x1x1x1024.rowMajor (ix4 (n0 := 1) (n1 := 1) (n2 := 1) (n3 := 1024) 0 0 0 f) = (⟨4, ![1, 1, 1, 1024]⟩ : Shape).rowMajor (ix4 (n0 := 1) (n1 := 1) (n2 := 1) (n3 := 1024) 0 0 0 f) from rfl,
    show S1x1024.rowMajor (ValueIdx.ix2 (0 : Fin 1) f) = (⟨2, ![1, 1024]⟩ : Shape).rowMajor (ValueIdx.ix2 (0 : Fin 1) f) from rfl,
    rowMajor_val4 _ 1024 1024 1024 rfl rfl rfl, rowMajor_val2 _ 1024 rfl]
  show 0 * 1024 + 0 * 1024 + 0 * 1024 + f.val = 0 * 1024 + f.val
  omega

/-- The second half of the body, entry by entry, from the first product. -/
theorem pay12_apply (h : FVec Ideal S512x2048 .f32) (x2 : Vec Ideal S1x1x1x2048 .f32) (w2 : Vec Ideal S1024x1024 .bf16)
    (x4 : Vec Ideal S1x1x1x1024 .f32) (r : Fin 512) (d : Fin 1024) :
    k0_pay12 h x2 w2 x4 (ix2 (n0 := 512) (n1 := 1024) r d)
      = (∑ f : Fin 1024, unit (h (ix2 (n0 := 512) (n1 := 2048) r ⟨f.val, by omega⟩) + x2 (ix4 (n0 := 1) (n1 := 1) (n2 := 1) (n3 := 2048) 0 0 0 ⟨f.val, by omega⟩))
          (h (ix2 (n0 := 512) (n1 := 2048) r ⟨1024 + f.val, by omega⟩) + x2 (ix4 (n0 := 1) (n1 := 1) (n2 := 1) (n3 := 2048) 0 0 0 ⟨1024 + f.val, by omega⟩))
          * w2 (ix2 (n0 := 1024) (n1 := 1024) f d)) + x4 (ix4 (n0 := 1) (n1 := 1) (n2 := 1) (n3 := 1024) 0 0 0 d) := by
  unfold k0_pay12
  rw [addf_apply, bias1024]
  refine congrArg (· + _) ((Ideal.matmul_plain_apply (M := 512) (K := 1024) (N := 1024) none _ _ _ r d).trans ?_)
  refine ((congrArg (· + _) zero_word).trans (zero_add _)).trans ?_
  refine Finset.sum_congr rfl fun f _ => ?_
  have hg : extractStridedSlice S512x1024 ![0, 0] (addf h (broadcastTo S512x2048 (shapeCast S1x2048 x2 shapeCasts_S1x1x1x2048_S1x2048) broadcasts_S1x2048_S512x2048))
      slices_S512x2048_o0_0_S512x1024 (ix2 (n0 := 512) (n1 := 1024) r f)
      = h (ix2 (n0 := 512) (n1 := 2048) r ⟨f.val, by omega⟩) + x2 (ix4 (n0 := 1) (n1 := 1) (n2 := 1) (n3 := 2048) 0 0 0 ⟨f.val, by omega⟩) := by
    refine (extractStridedSlice_apply ![0, 0] _ _ _ (ix2 (n0 := 512) (n1 := 2048) r ⟨f.val, by omega⟩) fun a => ?_).trans ?_
    · match a with
      | ⟨0, _⟩ => show r.val = 0 + r.val; omega
      | ⟨1, _⟩ => show f.val = 0 + f.val; omega
    · rw [addf_apply, bias2048]
      rfl
  have hu : extractStridedSlice S512x1024 ![0, 1024] (addf h (broadcastTo S512x2048 (shapeCast S1x2048 x2 shapeCasts_S1x1x1x2048_S1x2048) broadcasts_S1x2048_S512x2048))
      slices_S512x2048_o0_1024_S512x1024 (ix2 (n0 := 512) (n1 := 1024) r f)
      = h (ix2 (n0 := 512) (n1 := 2048) r ⟨1024 + f.val, by omega⟩) + x2 (ix4 (n0 := 1) (n1 := 1) (n2 := 1) (n3 := 2048) 0 0 0 ⟨1024 + f.val, by omega⟩) := by
    refine (extractStridedSlice_apply ![0, 1024] _ _ _ (ix2 (n0 := 512) (n1 := 2048) r ⟨1024 + f.val, by omega⟩) fun a => ?_).trans ?_
    · match a with
      | ⟨0, _⟩ => show r.val = 0 + r.val; omega
      | ⟨1, _⟩ => rfl
    · rw [addf_apply, bias2048]
      rfl
  refine congrArg (· * _) ?_
  rw [← hg, ← hu]
  rfl

/-- **The body's results**: row `r` of the block is the feed-forward step of row `r` of the tokens. -/
theorem outVals_apply (x0 : Vec Ideal S4096x128 .f32) (x1 : Vec Ideal S1x1x1024x2048 .f32) (x2 : Vec Ideal S1x1x1x2048 .f32)
    (x3 : Vec Ideal S1x1x1024x1024 .f32) (x4 : Vec Ideal S1x1x1x1024 .f32) (r : Fin 512) (d : Fin 1024) :
    outVals x0 (castGu x1) x2 (castDown x3) x4 (ix2 (n0 := 512) (n1 := 1024) r d)
      = ffn (rowOf x0 r) (fun k f => x1 (ix4 (n0 := 1) (n1 := 1) (n2 := 1024) (n3 := 2048) 0 0 k f))
          (fun f => x2 (ix4 (n0 := 1) (n1 := 1) (n2 := 1) (n3 := 2048) 0 0 0 f))
          (fun k f => x3 (ix4 (n0 := 1) (n1 := 1) (n2 := 1024) (n3 := 1024) 0 0 k f))
          (fun f => x4 (ix4 (n0 := 1) (n1 := 1) (n2 := 1) (n3 := 1024) 0 0 0 f)) d := by
  unfold outVals
  rw [pay12_apply]
  simp only [pay11_apply]
  rfl

end Cert.KernelIdeal.Gen

end
-- ==== Proof.Experts.Array.lean ====
module

public import proofs.«01_k».proof.Proof.Experts.Frame
public import proofs.«01_k».proof.Proof.Experts.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

variable (a : (pcfg0 (F := Ideal)).Adm) (hR : Routed (beT a) (nuT a))

/-! ## The blocks, read at a place -/

include hR in
/-- Block `t` of the tiles. -/
theorem iblk0_apply (c : Dev nD) (t : Fin (cfg0 a).N) (j : S4096x128.Idx) (i : S1179648x128.Idx)
    (h0 : (i 0).val = 4096 * min t.val (used (nuT a) - 1) + (j 0).val) (h1 : (i 1).val = (j 1).val) :
    iblk m a c 0 t j = V m c main_v22 i := by
  unfold iblk
  show (((cfg0 a).win 0).blk t).view.read (Elt Ideal) (V m c main_v22) _ = _
  generalize V m c main_v22 = y
  refine (cast_eq rfl _).trans (congrArg y (funext fun x => Fin.ext ?_))
  have e := Window.rect_emb_val ((cfg0 a).win 0) t j x
  refine e.trans ?_
  rw [show ((cfg0 a).win 0).index t = _ from index5 a hR t]
  match x with
  | ⟨0, _⟩ => show min t.val (used (nuT a) - 1) * 4096 + (j 0).val = (i 0).val; omega
  | ⟨1, _⟩ => show 0 * 128 + (j 1).val = (i 1).val; omega

/-- The gate-and-up weights of the point's expert. -/
theorem iblk1_apply (c : Dev nD) (t : Fin (cfg0 a).N) (e : Fin 32) (he : (beWord (beT a) (grid0.coords t)).toNat = e.val) (k : Fin 1024) (f : Fin 2048) :
    iblk m a c 1 t (ix4 (n0 := 1) (n1 := 1) (n2 := 1024) (n3 := 2048) 0 0 k f) = V m c main_arg2 (ix4 (n0 := 4) (n1 := 32) (n2 := 1024) (n3 := 2048) 0 e k f) := by
  unfold iblk
  show (((cfg0 a).win 1).blk t).view.read (Elt Ideal) (V m c main_arg2) _ = _
  generalize V m c main_arg2 = y
  refine (cast_eq rfl _).trans (congrArg y (funext fun x => Fin.ext ?_))
  refine (Window.rect_emb_val ((cfg0 a).win 1) t _ x).trans ?_
  rw [index1 a t]
  match x with
  | ⟨0, _⟩ => rfl
  | ⟨1, _⟩ => show (beWord (beT a) (grid0.coords t)).toNat * 1 + 0 = e.val; omega
  | ⟨2, _⟩ => show 0 * 1024 + k.val = k.val; omega
  | ⟨3, _⟩ => show 0 * 2048 + f.val = f.val; omega

/-- The gate-and-up biases of the point's expert. -/
theorem iblk2_apply (c : Dev nD) (t : Fin (cfg0 a).N) (e : Fin 32) (he : (beWord (beT a) (grid0.coords t)).toNat = e.val) (f : Fin 2048) :
    iblk m a c 2 t (ix4 (n0 := 1) (n1 := 1) (n2 := 1) (n3 := 2048) 0 0 0 f) = V m c main_v23 (ix4 (n0 := 4) (n1 := 32) (n2 := 1) (n3 := 2048) 0 e 0 f) := by
  unfold iblk
  show (((cfg0 a).win 2).blk t).view.read (Elt Ideal) (V m c main_v23) _ = _
  generalize V m c main_v23 = y
  refine (cast_eq rfl _).trans (congrArg y (funext fun x => Fin.ext ?_))
  refine (Window.rect_emb_val ((cfg0 a).win 2) t _ x).trans ?_
  rw [show ((cfg0 a).win 2).index t = ![0, (beWord (beT a) (grid0.coords t)).toNat, 0, 0] from rfl]
  match x with
  | ⟨0, _⟩ => rfl
  | ⟨1, _⟩ => show (beWord (beT a) (grid0.coords t)).toNat * 1 + 0 = e.val; omega
  | ⟨2, _⟩ => rfl
  | ⟨3, _⟩ => show 0 * 2048 + f.val = f.val; omega

/-- The down weights of the point's expert. -/
theorem iblk3_apply (c : Dev nD) (t : Fin (cfg0 a).N) (e : Fin 32) (he : (beWord (beT a) (grid0.coords t)).toNat = e.val) (k : Fin 1024) (f : Fin 1024) :
    iblk m a c 3 t (ix4 (n0 := 1) (n1 := 1) (n2 := 1024) (n3 := 1024) 0 0 k f) = V m c main_arg4 (ix4 (n0 := 4) (n1 := 32) (n2 := 1024) (n3 := 1024) 0 e k f) := by
  unfold iblk
  show (((cfg0 a).win 3).blk t).view.read (Elt Ideal) (V m c main_arg4) _ = _
  generalize V m c main_arg4 = y
  refine (cast_eq rfl _).trans (congrArg y (funext fun x => Fin.ext ?_))
  refine (Window.rect_emb_val ((cfg0 a).win 3) t _ x).trans ?_
  rw [index3 a t]
  match x with
  | ⟨0, _⟩ => rfl
  | ⟨1, _⟩ => show (beWord (beT a) (grid0.coords t)).toNat * 1 + 0 = e.val; omega
  | ⟨2, _⟩ => show 0 * 1024 + k.val = k.val; omega
  | ⟨3, _⟩ => show 0 * 1024 + f.val = f.val; omega

/-- The down biases of the point's expert. -/
theorem iblk4_apply (c : Dev nD) (t : Fin (cfg0 a).N) (e : Fin 32) (he : (beWord (beT a) (grid0.coords t)).toNat = e.val) (f : Fin 1024) :
    iblk m a c 4 t (ix4 (n0 := 1) (n1 := 1) (n2 := 1) (n3 := 1024) 0 0 0 f) = V m c main_v24 (ix4 (n0 := 4) (n1 := 32) (n2 := 1) (n3 := 1024) 0 e 0 f) := by
  unfold iblk
  show (((cfg0 a).win 4).blk t).view.read (Elt Ideal) (V m c main_v24) _ = _
  generalize V m c main_v24 = y
  refine (cast_eq rfl _).trans (congrArg y (funext fun x => Fin.ext ?_))
  refine (Window.rect_emb_val ((cfg0 a).win 4) t _ x).trans ?_
  rw [show ((cfg0 a).win 4).index t = ![0, (beWord (beT a) (grid0.coords t)).toNat, 0, 0] from rfl]
  match x with
  | ⟨0, _⟩ => rfl
  | ⟨1, _⟩ => show (beWord (beT a) (grid0.coords t)).toNat * 1 + 0 = e.val; omega
  | ⟨2, _⟩ => rfl
  | ⟨3, _⟩ => show 0 * 1024 + f.val = f.val; omega

/-! ## The reshaped arguments, read at a place -/

/-- A tile of the tokens. -/
theorem v22_apply (x : Vec Ideal S147456x1024 .f32) (i : S1179648x128.Idx) (n : Fin 147456) (k : Fin 1024)
    (h : 1024 * n.val + k.val = 128 * (i 0).val + (i 1).val) :
    shapeCast S1179648x128 x shapeCasts_S147456x1024_S1179648x128 i = x (ix2 n k) := by
  refine shapeCast_apply _ _ _ _ ?_
  refine (rowMajor_val2 (d := ![147456, 1024]) _ 1024 rfl).trans (Eq.trans ?_ (rowMajor_val2 (d := ![1179648, 128]) _ 128 rfl).symm)
  show n.val * 1024 + k.val = (i 0).val * 128 + (i 1).val
  omega

theorem v23_apply (x : Vec Ideal S4x32x2048 .f32) (l : Fin 4) (e : Fin 32) (f : Fin 2048) :
    shapeCast S4x32x1x2048 x shapeCasts_S4x32x2048_S4x32x1x2048 (ix4 (n0 := 4) (n1 := 32) (n2 := 1) (n3 := 2048) l e 0 f) = x (ix3 l e f) := by
  refine shapeCast_apply _ _ _ _ ?_
  refine (rowMajor_val3 (d := ![4, 32, 2048]) _ 65536 2048 rfl rfl).trans (Eq.trans ?_ (rowMajor_val4 (d := ![4, 32, 1, 2048]) _ 65536 2048 2048 rfl rfl rfl).symm)
  show l.val * 65536 + e.val * 2048 + f.val = l.val * 65536 + e.val * 2048 + 0 * 2048 + f.val
  omega

theorem v24_apply (x : Vec Ideal S4x32x1024 .f32) (l : Fin 4) (e : Fin 32) (f : Fin 1024) :
    shapeCast S4x32x1x1024 x shapeCasts_S4x32x1024_S4x32x1x1024 (ix4 (n0 := 4) (n1 := 32) (n2 := 1) (n3 := 1024) l e 0 f) = x (ix3 l e f) := by
  refine shapeCast_apply _ _ _ _ ?_
  refine (rowMajor_val3 (d := ![4, 32, 1024]) _ 32768 1024 rfl rfl).trans (Eq.trans ?_ (rowMajor_val4 (d := ![4, 32, 1, 1024]) _ 32768 1024 1024 rfl rfl rfl).symm)
  show l.val * 32768 + e.val * 1024 + f.val = l.val * 32768 + e.val * 1024 + 0 * 1024 + f.val
  omega

end Cert.KernelIdeal.Gen

end
-- ==== Proof.Experts.Final.lean ====
module

public import proofs.«01_k».proof.Proof.Experts.Array

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

variable (a : (pcfg0 (F := Ideal)).Adm) (hR : Routed (beT a) (nuT a))

/-! ## The arguments, as arrays -/

/-- The tokens, -/
abbrev argX (c : Dev nD) : Vec Ideal S147456x1024 .f32 := m ((c : Thread nD τ).loc main_arg1)
/-- the gate-and-up weights -/
abbrev argWg (c : Dev nD) : Vec Ideal S4x32x1024x2048 .f32 := m ((c : Thread nD τ).loc main_arg2)
/-- and biases, -/
abbrev argBg (c : Dev nD) : Vec Ideal S4x32x2048 .f32 := m ((c : Thread nD τ).loc main_arg3)
/-- the down weights -/
abbrev argWd (c : Dev nD) : Vec Ideal S4x32x1024x1024 .f32 := m ((c : Thread nD τ).loc main_arg4)
/-- and biases. -/
abbrev argBd (c : Dev nD) : Vec Ideal S4x32x1024 .f32 := m ((c : Thread nD τ).loc main_arg5)

/-- The feed-forward step of token `n` through expert `e` of layer 0. -/
def spec (c : Dev nD) (n : Fin 147456) (e : Fin 32) (d : Fin 1024) : EReal :=
  ffn (fun k => argX m c (ix2 n k)) (fun k f => argWg m c (ix4 (0 : Fin 4) e k f)) (fun f => argBg m c (ix3 (0 : Fin 4) e f))
    (fun k f => argWd m c (ix4 (0 : Fin 4) e k f)) (fun f => argBd m c (ix3 (0 : Fin 4) e f)) d

include hR in
/-- Block `t`'s result, at a place of the tile layout, for a point `t` in use. -/
theorem res_apply (c : Dev nD) (t : Fin (cfg0 a).N) (ht : t.val < used (nuT a)) (e : Fin 32)
    (he : (beWord (beT a) (grid0.coords t)).toNat = e.val) (r : Fin 512) (d : Fin 1024) (j : S4096x128.Idx)
    (h0 : (j 0).val = 8 * r.val + d.val / 128) (h1 : (j 1).val = d.val % 128) (n : Fin 147456) (hn : n.val = 512 * t.val + r.val) :
    res m a c t j = spec m c n e d := by
  have hd := d.isLt
  have hr := r.isLt
  unfold res tileRows
  rw [show (ix2 (n0 := 512) (n1 := 1024) ⟨(j 0).val / 8, by have h : (j 0).val < 4096 := (j 0).isLt; omega⟩
    ⟨128 * ((j 0).val % 8) + (j 1).val, by have h : (j 1).val < 128 := (j 1).isLt; omega⟩) = ix2 (n0 := 512) (n1 := 1024) r d from
      congrArg₂ (ix2 (n0 := 512) (n1 := 1024)) (Fin.ext (show (j 0).val / 8 = r.val by omega)) (Fin.ext (show 128 * ((j 0).val % 8) + (j 1).val = d.val by omega))]
  refine (outVals_apply _ _ _ _ _ r d).trans ?_
  unfold spec
  have e0 : rowOf (iblk m a c 0 t) r = fun k => argX m c (ix2 n k) := funext fun k => by
    have hk := k.isLt
    have hN : t.val < 288 := lt_of_lt_of_eq t.isLt N_0
    unfold rowOf
    refine (iblk0_apply m a hR c t _ (ix2 (⟨4096 * t.val + 8 * r.val + k.val / 128, by omega⟩ : Fin 1179648) (⟨k.val % 128, by omega⟩ : Fin 128)) ?_ rfl).trans ?_
    · show 4096 * t.val + 8 * r.val + k.val / 128 = 4096 * min t.val (used (nuT a) - 1) + (8 * r.val + k.val / 128)
      omega
    · refine (congrFun (V_v22 m c) _).trans (v22_apply _ _ n k ?_)
      show 1024 * n.val + k.val = 128 * (4096 * t.val + 8 * r.val + k.val / 128) + k.val % 128
      omega
  have e1 : (fun (k : Fin 1024) (f : Fin 2048) => iblk m a c 1 t (ix4 (n0 := 1) (n1 := 1) (n2 := 1024) (n3 := 2048) 0 0 k f)) = fun k f => argWg m c (ix4 (0 : Fin 4) e k f) :=
    funext fun k => funext fun f => (iblk1_apply m a c t e he k f).trans (congrFun (V_arg2 m c) _)
  have e2 : (fun (f : Fin 2048) => iblk m a c 2 t (ix4 (n0 := 1) (n1 := 1) (n2 := 1) (n3 := 2048) 0 0 0 f)) = fun f => argBg m c (ix3 (0 : Fin 4) e f) :=
    funext fun f => (iblk2_apply m a c t e he f).trans ((congrFun (V_v23 m c) _).trans (v23_apply _ 0 e f))
  have e3 : (fun (k : Fin 1024) (f : Fin 1024) => iblk m a c 3 t (ix4 (n0 := 1) (n1 := 1) (n2 := 1024) (n3 := 1024) 0 0 k f)) = fun k f => argWd m c (ix4 (0 : Fin 4) e k f) :=
    funext fun k => funext fun f => (iblk3_apply m a c t e he k f).trans (congrFun (V_arg4 m c) _)
  have e4 : (fun (f : Fin 1024) => iblk m a c 4 t (ix4 (n0 := 1) (n1 := 1) (n2 := 1) (n3 := 1024) 0 0 0 f)) = fun f => argBd m c (ix3 (0 : Fin 4) e f) :=
    funext fun f => (iblk4_apply m a c t e he f).trans ((congrFun (V_v24 m c) _).trans (v24_apply _ 0 e f))
  exact congr (congr (congr (congr (congr (congrArg ffn e0) e1) e2) e3) e4) rfl

/-! ## The result array -/

/-- What the result array holds at the places written: each block's result. -/
def whole (c : Dev nD) : S1179648x128.Idx → EReal := fun j =>
  res m a c (pt a hR ((j 0).val / 4096)) (ix2 (n0 := 4096) (n1 := 128) ⟨(j 0).val % 4096, by omega⟩ (j 1))

/-- A place of block `b` in use ends at that block's result. -/
theorem final_apply (c : Dev nD) (j : S1179648x128.Idx) (hj : (j 0).val / 4096 < used (nuT a)) :
    (dats m a hR 0 c).arrAt 5 (cfg0 a).N j = whole m a hR c j := by
  have hle := hR.le
  have hpos := hR.pos
  have emb_val : ∀ (t : Fin (cfg0 a).N) (y : S4096x128.Idx) (i : S1179648x128.Idx), (i 0).val = 4096 * min t.val (used (nuT a) - 1) + (y 0).val → (i 1).val = (y 1).val →
      (((cfg0 a).win 5).blk t).view.emb y = i := fun t y i h0 h1 => by
    refine funext fun x => Fin.ext ?_
    refine (Window.rect_emb_val ((cfg0 a).win 5) t y x).trans ?_
    rw [index5 a hR t]
    match x with
    | ⟨0, _⟩ => show min t.val (used (nuT a) - 1) * 4096 + (y 0).val = (i 0).val; omega
    | ⟨1, _⟩ => show 0 * 128 + (y 1).val = (i 1).val; omega
  have hG : ∀ t, ((cfg0 a).win 5).flush t = true → (dats m a hR 0 c).flushed 5 t = (((cfg0 a).win 5).blk t).view.read (Elt Ideal) (whole m a hR c) := fun t _ => by
    refine funext fun (y : S4096x128.Idx) => ?_
    have hy0 : (y 0).val < 4096 := (y 0).isLt
    have hN : t.val < 288 := lt_of_lt_of_eq t.isLt N_0
    have hi := emb_val t y (ix2 (⟨4096 * min t.val (used (nuT a) - 1) + (y 0).val, by omega⟩ : Fin 1179648) (y 1)) rfl rfl
    refine Eq.trans ?_ (congrArg (whole m a hR c) hi).symm
    show res m a c (pt a hR t.val) y = _
    unfold whole
    have hp : pt a hR t.val = pt a hR ((4096 * min t.val (used (nuT a) - 1) + (y 0).val) / 4096) := Fin.ext (by
      show min t.val (used (nuT a) - 1) = min ((4096 * min t.val (used (nuT a) - 1) + (y 0).val) / 4096) (used (nuT a) - 1)
      omega)
    refine congr (congrArg (res m a c) hp) (funext fun x => Fin.ext ?_)
    match x with
    | ⟨0, _⟩ => show (y 0).val = (4096 * min t.val (used (nuT a) - 1) + (y 0).val) % 4096; omega
    | ⟨1, _⟩ => rfl
  have hcov : ∃ t : Fin (cfg0 a).N, ((cfg0 a).win 5).flush t = true ∧ min t.val (used (nuT a) - 1) = (j 0).val / 4096 := by
    by_cases hb : (j 0).val / 4096 + 1 < used (nuT a)
    · exact ⟨⟨(j 0).val / 4096, lt_of_lt_of_eq (show (j 0).val / 4096 < 288 by omega) N_0.symm⟩, flush5_on a hR _ hb, by show min ((j 0).val / 4096) _ = _; omega⟩
    · exact ⟨⟨287, lt_of_lt_of_eq (show 287 < 288 by omega) N_0.symm⟩, flush5_last a _ rfl, by show min 287 _ = _; omega⟩
  obtain ⟨t, hf, hb⟩ := hcov
  have hj1 : (j 1).val < 128 := (j 1).isLt
  have hy := emb_val t (ix2 (⟨(j 0).val % 4096, by omega⟩ : Fin 4096) (⟨(j 1).val, hj1⟩ : Fin 128)) j
    (show (j 0).val = 4096 * min t.val (used (nuT a) - 1) + (j 0).val % 4096 by omega) rfl
  exact (dats m a hR 0 c).arrAt_apply_of_mem 5 (whole m a hR c) hG (cfg0 a).N t j t.isLt hf (hy ▸ View.emb_mem_set _ _)

end Cert.KernelIdeal.Gen

end
-- ==== Proof.Experts.Mask.lean ====
module

public import proofs.«01_k».proof.Proof.Gen.On_in_use
public import proofs.«01_k».proof.Proof.Experts.Plan
public import Idealize.ShloMosaic.Lib.Routing.Words
public import Idealize.ShloMosaic.Lib.WordCmp

@[expose] public section

set_option maxRecDepth 16384

noncomputable section

namespace Cert.KernelIdeal.Gen

open Idealize.ShloMosaic

variable {F : FTy → Type} [FloatOps F]

/-- The places compared are those of blocks in use: a row's number over 4096 is below the number of blocks in use. -/
theorem block_of_in_use (cnt : IVec S32 32) (x1 : FVec F S147456x1024 .f32) (x2 : FVec F S4x32x1024x2048 .f32) (x3 : FVec F S4x32x2048 .f32) (x4 : FVec F S4x32x1024x1024 .f32) (x5 : FVec F S4x32x1024 .f32)
    (hnu : (nuWord (F := F) (blocksOf cnt)).toNat < 2 ^ 31) (j : S1179648x128.Idx) (h : Cert.On_in_use.fn (F := F) cnt x1 x2 x3 x4 x5 j = 1#1) :
    (j 0).val / 4096 < used (F := F) (blocksOf cnt) := by
  have hj : (j 0).val < 1179648 := (j 0).isLt
  have hq : Cert.On_in_use.fn_floor_divide (F := F) (iotaInDim S1179648x128 32 0) (constantI Cert.On_in_use.S_ 32 4096#32) j = BitVec.ofNat 32 ((j 0).val / 4096) :=
    Routing.pyDiv_ap _ (iotaInDim S1179648x128 32 0) (constantI Cert.On_in_use.S_ 32 4096#32) j (a := (j 0).val) (b := 4096) rfl rfl (by omega) (by decide) (by decide)
  have hw : shapeCast Cert.On_in_use.S_ (blocksOf cnt) Cert.On_in_use.Gen.shapeCasts_S1_S_ = fun _ => nuWord (F := F) (blocksOf cnt) := funext fun i => congrArg (blocksOf cnt) (funext fun x => by
    match x with
    | ⟨0, _⟩ => exact Subsingleton.elim (α := Fin 1) _ _)
  have h' : IntOp.cmpi .slt (Cert.On_in_use.fn_floor_divide (F := F) (iotaInDim S1179648x128 32 0) (constantI Cert.On_in_use.S_ 32 4096#32) j) (nuWord (F := F) (blocksOf cnt)) = 1#1 := by
    rw [← h]
    exact congrArg (IntOp.cmpi .slt _) (congrFun hw _).symm
  generalize blocksOf cnt = nu at *
  rw [hq, IntOp.cmpi_slt] at h'
  rw [BitVec.toInt_eq_toNat_of_lt (x := nuWord (F := F) nu) (by omega), BitVec.toInt_eq_toNat_of_lt (by rw [WordCmp.toNat_ofNat_of_lt (by omega)]; omega), WordCmp.toNat_ofNat_of_lt (by omega)] at h'
  refine lt_min (by exact_mod_cast h') ?_
  omega

end Cert.KernelIdeal.Gen

end
-- ==== Proof.Experts.Reference.lean ====
module

public import proofs.«01_k».proof.Proof.Gen.ReferenceIdeal.Run
public import proofs.«01_k».proof.Proof.Experts.Value
public import proofs.«01_k».proof.Proof.Experts.Plan
public import Idealize.ShloMosaic.Lib.StackMember
public import Idealize.ShloMosaic.Lib.ValueIdxCore
public import Idealize.ShloMosaic.Lib.Routing.Ops
public import Idealize.ShloMosaic.Lib.WordCmp

@[expose] public section

set_option maxRecDepth 16384

noncomputable section

namespace Cert.ReferenceIdeal.Value

open Cert.ReferenceIdeal Cert.ReferenceIdeal.Gen Idealize.ShloMosaic Idealize.ShloMosaic.TcCoe
open Cert.KernelIdeal.Gen (ffn act)

/-! ## A gather of whole matrices -/

/-- The dimension numbers of `table[idx]` over the matrices of a stack. -/
abbrev matDims (nb B C n : Nat) (wf : GatherDims.WF ⟨3, ![nb, B, C]⟩ ⟨2, ![n, 1]⟩ ⟨3, ![n, B, C]⟩ [1, 2] [0] [] [0] [] 1 ![1, B, C]) :
    GatherDims ⟨3, ![nb, B, C]⟩ ⟨2, ![n, 1]⟩ ⟨3, ![n, B, C]⟩ where
  offsetDims := [1, 2]
  collapsedSliceDims := [0]
  operandBatchingDims := []
  startIndicesBatchingDims := []
  startIndexMap := [0]
  indexVectorDim := 1
  sliceSizes := ![1, B, C]
  wf := wf

/-- Where the index is a matrix's number, the gather's entry is that matrix's. -/
theorem gather_mat {α : Type} {nb B C n : Nat} (wf : GatherDims.WF ⟨3, ![nb, B, C]⟩ ⟨2, ![n, 1]⟩ ⟨3, ![n, B, C]⟩ [1, 2] [0] [] [0] [] 1 ![1, B, C])
    (x : (⟨3, ![nb, B, C]⟩ : Shape).Idx → α) (idx : IVec ⟨2, ![n, 1]⟩ 32) (g : Fin n) (y : Fin B) (z : Fin C) (e : Fin nb)
    (he : idx (ix2 g (0 : Fin 1)) = BitVec.ofNat 32 e.val) (hnb : nb < 2 ^ 31) :
    Host.gather (matDims nb B C n wf) x idx (ix3 g y z) = x (ix3 e y z) := by
  unfold Host.gather
  refine congrArg x (funext fun a => Fin.ext ?_)
  show (matDims nb B C n wf).start (ix3 g y z) idx a + (matDims nb B C n wf).batchCoord (ix3 g y z) a
    + (matDims nb B C n wf).offCoord (ix3 g y z) a = _
  rw [GatherDims.batchCoord_eq_zero _ _ _ List.not_mem_nil]
  have hel := e.isLt
  match a with
  | ⟨0, _⟩ =>
    show (matDims nb B C n wf).start (ix3 g y z) idx 0 + 0 + (matDims nb B C n wf).offCoord (ix3 g y z) 0 = e.val
    rw [GatherDims.offCoord_eq_zero _ _ _ (fun h => ((GatherDims.mem_sKept _ _).mp h).1 (List.mem_singleton.mpr rfl))]
    unfold GatherDims.start
    rw [dif_pos (show (0 : Fin 3) ∈ (matDims nb B C n wf).startIndexMap from List.mem_singleton.mpr rfl)]
    have hsi : (matDims nb B C n wf).siIdx (ix3 g y z) ⟨List.idxOf (0 : Fin 3) (matDims nb B C n wf).startIndexMap,
        List.idxOf_lt_length_iff.2 (List.mem_singleton.mpr rfl)⟩ = ix2 g (0 : Fin 1) := by
      funext b; refine Fin.ext ?_
      match b with
      | ⟨0, _⟩ => rfl
      | ⟨1, _⟩ => rfl
    rw [hsi, he, StableHlo.Predicate.toInt_ofNat_small _ (by omega)]
    show min ((e.val : Int)).toNat (nb - 1) + 0 + 0 = e.val
    omega
  | ⟨1, _⟩ =>
    show (matDims nb B C n wf).start (ix3 g y z) idx 1 + 0 + (matDims nb B C n wf).offCoord (ix3 g y z) 1 = y.val
    unfold GatherDims.start GatherDims.offCoord
    rw [dif_neg (show (1 : Fin 3) ∉ (matDims nb B C n wf).startIndexMap from fun h => absurd (List.mem_singleton.mp h) (show (1 : Fin 3) ≠ 0 by decide)),
      dif_pos (show (1 : Fin 3) ∈ (matDims nb B C n wf).sKept from (GatherDims.mem_sKept _ _).mpr ⟨fun h => absurd (List.mem_singleton.mp h) (show (1 : Fin 3) ≠ 0 by decide), List.not_mem_nil⟩)]
    show 0 + 0 + y.val = y.val
    omega
  | ⟨2, _⟩ =>
    show (matDims nb B C n wf).start (ix3 g y z) idx 2 + 0 + (matDims nb B C n wf).offCoord (ix3 g y z) 2 = z.val
    unfold GatherDims.start GatherDims.offCoord
    rw [dif_neg (show (2 : Fin 3) ∉ (matDims nb B C n wf).startIndexMap from fun h => absurd (List.mem_singleton.mp h) (show (2 : Fin 3) ≠ 0 by decide)),
      dif_pos (show (2 : Fin 3) ∈ (matDims nb B C n wf).sKept from (GatherDims.mem_sKept _ _).mpr ⟨fun h => absurd (List.mem_singleton.mp h) (show (2 : Fin 3) ≠ 0 by decide), List.not_mem_nil⟩)]
    show 0 + 0 + z.val = z.val
    omega

/-! ## The reference's terms -/

variable (be : IVec S288 32) (x : FVec Ideal S147456x1024 .f32) (wg : FVec Ideal S4x32x1024x2048 .f32) (bg : FVec Ideal S4x32x2048 .f32)
  (wd : FVec Ideal S4x32x1024x1024 .f32) (bd : FVec Ideal S4x32x1024 .f32)

/-- The index of the gathers: the expert's number, counted from the end where it is negative. -/
def idxT : IVec S288x1 32 :=
  broadcastInDim S288x1 ![0] bcast_S288_S288x1_0 (select (cmpi .slt be (broadcastInDim S288 ![] bcast_S_S288 (constantI S_ 32 0#32))) (addi be (broadcastInDim S288 ![] bcast_S_S288 (constantI S_ 32 32#32))) be)

/-- The gate-and-up products. -/
def hidT : FVec Ideal S288x512x2048 .f32 :=
  addf (Host.dotGeneral dot_S288x512x1024_S288x1024x2048_S288x512x2048_2_1_1_2_0_0 none (shapeCast S288x512x1024 x shapeCasts_S147456x1024_S288x512x1024)
      (Host.gather gather_S32x1024x2048_S288x1_S288x1024x2048_12_0_n_n_0_1_110242048 (shapeCast S32x1024x2048 (extractStridedSlice S1x32x1024x2048 ![0, 0, 0, 0] wg slices_S4x32x1024x2048_S1x32x1024x2048_0_0_0_0) shapeCasts_S1x32x1024x2048_S32x1024x2048) (idxT be)))
    (broadcastInDim S288x512x2048 ![0, 1, 2] bcast_S288x1x2048_S288x512x2048_0_1_2 (broadcastInDim S288x1x2048 ![0, 2] bcast_S288x2048_S288x1x2048_0_2
      (Host.gather gather_S32x2048_S288x1_S288x2048_1_0_n_n_0_1_12048 (shapeCast S32x2048 (extractStridedSlice S1x32x2048 ![0, 0, 0] bg slices_S4x32x2048_S1x32x2048_0_0_0) shapeCasts_S1x32x2048_S32x2048) (idxT be))))

/-- The activations. -/
def actT (h : FVec Ideal S288x512x2048 .f32) : FVec Ideal S288x512x1024 .f32 :=
  mulf (mulf (addf (minimumf (broadcastInDim S288x512x1024 ![] bcast_S_S288x512x1024 (id (constant S_ .f32 0x40E00000#32))) (maximumf (broadcastInDim S288x512x1024 ![] bcast_S_S288x512x1024 (id (constant S_ .f32 0xC0E00000#32))) (extractStridedSlice S288x512x1024 ![0, 0, 1024] h slices_S288x512x2048_S288x512x1024_0_0_1024))) (broadcastInDim S288x512x1024 ![] bcast_S_S288x512x1024 (constant S_ .f32 0x3F800000#32)))
      (minimumf (extractStridedSlice S288x512x1024 ![0, 0, 0] h slices_S288x512x2048_S288x512x1024_0_0_0) (broadcastInDim S288x512x1024 ![] bcast_S_S288x512x1024 (constant S_ .f32 0x40E00000#32))))
    (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (minimumf (extractStridedSlice S288x512x1024 ![0, 0, 0] h slices_S288x512x2048_S288x512x1024_0_0_0) (broadcastInDim S288x512x1024 ![] bcast_S_S288x512x1024 (constant S_ .f32 0x40E00000#32))))))))

/-- The results, block by block. -/
def outT : FVec Ideal S288x512x1024 .f32 :=
  addf (Host.dotGeneral dot_S288x512x1024_S288x1024x1024_S288x512x1024_2_1_1_2_0_0 none (actT (hidT be x wg bg))
      (Host.gather gather_S32x1024x1024_S288x1_S288x1024x1024_12_0_n_n_0_1_110241024 (shapeCast S32x1024x1024 (extractStridedSlice S1x32x1024x1024 ![0, 0, 0, 0] wd slices_S4x32x1024x1024_S1x32x1024x1024_0_0_0_0) shapeCasts_S1x32x1024x1024_S32x1024x1024) (idxT be)))
    (broadcastInDim S288x512x1024 ![0, 1, 2] bcast_S288x1x1024_S288x512x1024_0_1_2 (broadcastInDim S288x1x1024 ![0, 2] bcast_S288x1024_S288x1x1024_0_2
      (Host.gather gather_S32x1024_S288x1_S288x1024_1_0_n_n_0_1_11024 (shapeCast S32x1024 (extractStridedSlice S1x32x1024 ![0, 0, 0] bd slices_S4x32x1024_S1x32x1024_0_0_0) shapeCasts_S1x32x1024_S32x1024) (idxT be))))

/-- The run's result is these terms of the arguments, the blocks' experts read off the counts by the same sum of comparisons as the kernel's
table. -/
theorem res_eq (m : (ℓ : Loc nD τ sig) → Buf (Elt Ideal) ℓ) (c : Dev nD) :
    res_main_v82 m c = shapeCast S1179648x128 (outT (Cert.KernelIdeal.Gen.expertOf (m ((c.tc : Thread nD τ).loc main_arg0))) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) shapeCasts_S288x512x1024_S1179648x128 := rfl

/-! ## The terms at an index -/

variable (g : Fin 288) (e : Fin 32) (he : be (ix1 g) = BitVec.ofNat 32 e.val)

include he in
/-- The gathers' index is the expert's number. -/
theorem idxT_apply : idxT be (ix2 g (0 : Fin 1)) = BitVec.ofNat 32 e.val := by
  unfold idxT
  refine (broadcastInDim_apply ![0] bcast_S288_S288x1_0 _ (ix2 g (0 : Fin 1)) (ix1 g) fun a => ?_).trans ?_
  · match a with
    | ⟨0, _⟩ => rfl
  · show Scalar.select (IntOp.cmpi .slt (be (ix1 g)) 0#32) (IntOp.addi (be (ix1 g)) 32#32) (be (ix1 g)) = _
    rw [he]
    have h : ∀ e : Fin 32, Scalar.select (IntOp.cmpi .slt (BitVec.ofNat 32 e.val) 0#32) (IntOp.addi (BitVec.ofNat 32 e.val) 32#32) (BitVec.ofNat 32 e.val) = BitVec.ofNat 32 e.val := by decide
    exact h e

/-- The tokens, block by block. -/
theorem tokens_apply (r : Fin 512) (k : Fin 1024) :
    shapeCast S288x512x1024 x shapeCasts_S147456x1024_S288x512x1024 (ix3 g r k) = x (ix2 (⟨512 * g.val + r.val, by omega⟩ : Fin 147456) k) := by
  refine shapeCast_apply _ _ _ _ ?_
  refine (rowMajor_val2 (d := ![147456, 1024]) _ 1024 rfl).trans (Eq.trans ?_ (rowMajor_val3 (d := ![288, 512, 1024]) _ 524288 1024 rfl rfl).symm)
  show (512 * g.val + r.val) * 1024 + k.val = g.val * 524288 + r.val * 1024 + k.val
  omega

/-- Layer 0 of the gate-and-up weights. -/
theorem wg0_apply (k : Fin 1024) (f : Fin 2048) :
    shapeCast S32x1024x2048 (extractStridedSlice S1x32x1024x2048 ![0, 0, 0, 0] wg slices_S4x32x1024x2048_S1x32x1024x2048_0_0_0_0) shapeCasts_S1x32x1024x2048_S32x1024x2048 (ix3 e k f)
      = wg (ix4 (0 : Fin 4) e k f) := by
  refine (shapeCast_apply _ _ _ (ix4 (0 : Fin 1) e k f) ?_).trans ?_
  · refine (rowMajor_val4 (d := ![1, 32, 1024, 2048]) _ 67108864 2097152 2048 rfl rfl rfl).trans (Eq.trans ?_ (rowMajor_val3 (d := ![32, 1024, 2048]) _ 2097152 2048 rfl rfl).symm)
    show 0 * 67108864 + e.val * 2097152 + k.val * 2048 + f.val = e.val * 2097152 + k.val * 2048 + f.val
    omega
  · refine extractStridedSlice_apply _ _ _ _ _ fun a => ?_
    match a with
    | ⟨0, _⟩ => rfl
    | ⟨1, _⟩ => show e.val = 0 + e.val; omega
    | ⟨2, _⟩ => show k.val = 0 + k.val; omega
    | ⟨3, _⟩ => show f.val = 0 + f.val; omega

/-- Layer 0 of the down weights. -/
theorem wd0_apply (k : Fin 1024) (f : Fin 1024) :
    shapeCast S32x1024x1024 (extractStridedSlice S1x32x1024x1024 ![0, 0, 0, 0] wd slices_S4x32x1024x1024_S1x32x1024x1024_0_0_0_0) shapeCasts_S1x32x1024x1024_S32x1024x1024 (ix3 e k f)
      = wd (ix4 (0 : Fin 4) e k f) := by
  refine (shapeCast_apply _ _ _ (ix4 (0 : Fin 1) e k f) ?_).trans ?_
  · refine (rowMajor_val4 (d := ![1, 32, 1024, 1024]) _ 33554432 1048576 1024 rfl rfl rfl).trans (Eq.trans ?_ (rowMajor_val3 (d := ![32, 1024, 1024]) _ 1048576 1024 rfl rfl).symm)
    show 0 * 33554432 + e.val * 1048576 + k.val * 1024 + f.val = e.val * 1048576 + k.val * 1024 + f.val
    omega
  · refine extractStridedSlice_apply _ _ _ _ _ fun a => ?_
    match a with
    | ⟨0, _⟩ => rfl
    | ⟨1, _⟩ => show e.val = 0 + e.val; omega
    | ⟨2, _⟩ => show k.val = 0 + k.val; omega
    | ⟨3, _⟩ => show f.val = 0 + f.val; omega

/-- Layer 0 of the gate-and-up biases. -/
theorem bg0_apply (f : Fin 2048) :
    shapeCast S32x2048 (extractStridedSlice S1x32x2048 ![0, 0, 0] bg slices_S4x32x2048_S1x32x2048_0_0_0) shapeCasts_S1x32x2048_S32x2048 (ix2 e f)
      = bg (ix3 (0 : Fin 4) e f) := by
  refine (shapeCast_apply _ _ _ (ix3 (0 : Fin 1) e f) ?_).trans ?_
  · refine (rowMajor_val3 (d := ![1, 32, 2048]) _ 65536 2048 rfl rfl).trans (Eq.trans ?_ (rowMajor_val2 (d := ![32, 2048]) _ 2048 rfl).symm)
    show 0 * 65536 + e.val * 2048 + f.val = e.val * 2048 + f.val
    omega
  · refine extractStridedSlice_apply _ _ _ _ _ fun a => ?_
    match a with
    | ⟨0, _⟩ => rfl
    | ⟨1, _⟩ => show e.val = 0 + e.val; omega
    | ⟨2, _⟩ => show f.val = 0 + f.val; omega

/-- Layer 0 of the down biases. -/
theorem bd0_apply (f : Fin 1024) :
    shapeCast S32x1024 (extractStridedSlice S1x32x1024 ![0, 0, 0] bd slices_S4x32x1024_S1x32x1024_0_0_0) shapeCasts_S1x32x1024_S32x1024 (ix2 e f)
      = bd (ix3 (0 : Fin 4) e f) := by
  refine (shapeCast_apply _ _ _ (ix3 (0 : Fin 1) e f) ?_).trans ?_
  · refine (rowMajor_val3 (d := ![1, 32, 1024]) _ 32768 1024 rfl rfl).trans (Eq.trans ?_ (rowMajor_val2 (d := ![32, 1024]) _ 1024 rfl).symm)
    show 0 * 32768 + e.val * 1024 + f.val = e.val * 1024 + f.val
    omega
  · refine extractStridedSlice_apply _ _ _ _ _ fun a => ?_
    match a with
    | ⟨0, _⟩ => rfl
    | ⟨1, _⟩ => show e.val = 0 + e.val; omega
    | ⟨2, _⟩ => show f.val = 0 + f.val; omega

include he in
/-- The gate-and-up product of a row at a column. -/
theorem hidT_apply (r : Fin 512) (f : Fin 2048) :
    hidT be x wg bg (ix3 g r f) = Cert.KernelIdeal.Gen.hidden (fun k => x (ix2 (⟨512 * g.val + r.val, by omega⟩ : Fin 147456) k)) (fun k f => wg (ix4 (0 : Fin 4) e k f))
      (fun f => bg (ix3 (0 : Fin 4) e f)) f := by
  have hi := idxT_apply be g e he
  unfold hidT Cert.KernelIdeal.Gen.hidden
  rw [ValueIdx.addf_apply]
  refine congrArg₂ (· + ·) ?_ ?_
  · refine (StackMember.dotGeneral_stack_apply (G := 288) (m := 512) (n := 2048) (k := 1024) dot_S288x512x1024_S288x1024x2048_S288x512x2048_2_1_1_2_0_0_wf none _ _ g r f).trans ?_
    refine Finset.sum_congr rfl fun k _ => ?_
    refine congrArg₂ (· * ·) (tokens_apply x g r k) ?_
    exact (gather_mat (nb := 32) (B := 1024) (C := 2048) (n := 288) gather_S32x1024x2048_S288x1_S288x1024x2048_12_0_n_n_0_1_110242048_wf _ _ g k f e hi (by decide)).trans (wg0_apply wg e k f)
  · refine (broadcastInDim_apply _ _ _ _ (ix3 g (0 : Fin 1) f) fun a => ?_).trans ((broadcastInDim_apply _ _ _ _ (ix2 g f) fun a => ?_).trans ?_)
    · match a with
      | ⟨0, _⟩ => rfl
      | ⟨1, _⟩ => rfl
      | ⟨2, _⟩ => rfl
    · match a with
      | ⟨0, _⟩ => rfl
      | ⟨1, _⟩ => rfl
    · exact (Routing.gather_row (nb := 32) (B := 2048) (n := 288) gather_S32x2048_S288x1_S288x2048_1_0_n_n_0_1_12048 rfl rfl rfl rfl rfl _ _ g f e hi (by decide)).trans (bg0_apply bg e f)

/-- The one word reads 1. -/
theorem one_word : (Ideal.ofBits .f32 0x3F800000#32 : EReal) = 1 := by
  simp [Ideal.ofBits, Ideal.ieee, -EReal.coe_mul]; norm_num

/-- The activation of a row at a unit. -/
theorem actT_apply (h : FVec Ideal S288x512x2048 .f32) (r : Fin 512) (f : Fin 1024) :
    actT h (ix3 g r f) = Cert.KernelIdeal.Gen.unit (h (ix3 g r (⟨f.val, by omega⟩ : Fin 2048))) (h (ix3 g r (⟨1024 + f.val, by omega⟩ : Fin 2048))) := by
  have hg : extractStridedSlice S288x512x1024 ![0, 0, 0] h slices_S288x512x2048_S288x512x1024_0_0_0 (ix3 g r f) = h (ix3 g r (⟨f.val, by omega⟩ : Fin 2048)) := by
    refine extractStridedSlice_apply _ _ _ _ _ fun a => ?_
    match a with
    | ⟨0, _⟩ => show g.val = 0 + g.val; omega
    | ⟨1, _⟩ => show r.val = 0 + r.val; omega
    | ⟨2, _⟩ => show f.val = 0 + f.val; omega
  have hu : extractStridedSlice S288x512x1024 ![0, 0, 1024] h slices_S288x512x2048_S288x512x1024_0_0_1024 (ix3 g r f) = h (ix3 g r (⟨1024 + f.val, by omega⟩ : Fin 2048)) := by
    refine extractStridedSlice_apply _ _ _ _ _ fun a => ?_
    match a with
    | ⟨0, _⟩ => show g.val = 0 + g.val; omega
    | ⟨1, _⟩ => show r.val = 0 + r.val; omega
    | ⟨2, _⟩ => rfl
  rw [← hg, ← hu]
  unfold actT Cert.KernelIdeal.Gen.unit Ideal.logistic
  rw [← one_word]
  rfl

include he in
/-- **The reference's results**: row `r` of block `g` is the feed-forward step of its token through the block's expert. -/
theorem outT_apply (r : Fin 512) (d : Fin 1024) :
    outT be x wg bg wd bd (ix3 g r d) = ffn (fun k => x (ix2 (⟨512 * g.val + r.val, by omega⟩ : Fin 147456) k)) (fun k f => wg (ix4 (0 : Fin 4) e k f))
      (fun f => bg (ix3 (0 : Fin 4) e f)) (fun k f => wd (ix4 (0 : Fin 4) e k f)) (fun f => bd (ix3 (0 : Fin 4) e f)) d := by
  have hi := idxT_apply be g e he
  unfold outT ffn
  rw [ValueIdx.addf_apply]
  refine congrArg₂ (· + ·) ?_ ?_
  · refine (StackMember.dotGeneral_stack_apply (G := 288) (m := 512) (n := 1024) (k := 1024) dot_S288x512x1024_S288x1024x1024_S288x512x1024_2_1_1_2_0_0_wf none _ _ g r d).trans ?_
    refine Finset.sum_congr rfl fun k _ => ?_
    refine congrArg₂ (· * ·) ?_ ?_
    · refine (actT_apply g _ r k).trans ?_
      rw [hidT_apply be x wg bg g e he, hidT_apply be x wg bg g e he]
      rfl
    · exact (gather_mat (nb := 32) (B := 1024) (C := 1024) (n := 288) gather_S32x1024x1024_S288x1_S288x1024x1024_12_0_n_n_0_1_110241024_wf _ _ g k d e hi (by decide)).trans (wd0_apply wd e k d)
  · refine (broadcastInDim_apply _ _ _ _ (ix3 g (0 : Fin 1) d) fun a => ?_).trans ((broadcastInDim_apply _ _ _ _ (ix2 g d) fun a => ?_).trans ?_)
    · match a with
      | ⟨0, _⟩ => rfl
      | ⟨1, _⟩ => rfl
      | ⟨2, _⟩ => rfl
    · match a with
      | ⟨0, _⟩ => rfl
      | ⟨1, _⟩ => rfl
    · exact (Routing.gather_row (nb := 32) (B := 1024) (n := 288) gather_S32x1024_S288x1_S288x1024_1_0_n_n_0_1_11024 rfl rfl rfl rfl rfl _ _ g d e hi (by decide)).trans (bd0_apply bd e d)

/-- The result array at a place of block `g`. -/
theorem out_tiles (y : FVec Ideal S288x512x1024 .f32) (j : S1179648x128.Idx) (r : Fin 512) (d : Fin 1024)
    (h : (j 0).val = 4096 * g.val + 8 * r.val + d.val / 128) (h' : (j 1).val = d.val % 128) :
    shapeCast S1179648x128 y shapeCasts_S288x512x1024_S1179648x128 j = y (ix3 g r d) := by
  refine shapeCast_apply _ _ _ _ ?_
  refine (rowMajor_val3 (d := ![288, 512, 1024]) _ 524288 1024 rfl rfl).trans (Eq.trans ?_ (rowMajor_val2 (d := ![1179648, 128]) _ 128 rfl).symm)
  show g.val * 524288 + r.val * 1024 + d.val = (j 0).val * 128 + (j 1).val
  have := d.isLt
  omega

end Cert.ReferenceIdeal.Value

end
-- ==== Proof.Experts.Equal.lean ====
module

public import proofs.«01_k».proof.Proof.Experts.Final
public import proofs.«01_k».proof.Proof.Experts.Mask
public import proofs.«01_k».proof.Proof.Experts.Reference

@[expose] public section

set_option maxRecDepth 16384

noncomputable section

namespace Cert.KernelIdeal.Gen

open Idealize.ShloMosaic Idealize.ShloMosaic.TcCoe
open Idealize.ShloMosaic.Pipeline (Dat Cfg Window)

variable (m : (ℓ : Loc nD τ sig) → Buf (Elt Ideal) ℓ)

/-- The word of the first table at a grid point is the table's entry of that number. -/
theorem beWord_apply (be : Vec Ideal S288 .i32) (t : Fin grid0.N) (g : Fin 288) (hg : g.val = t.val) :
    be (ix1 (n0 := 288) g) = beWord be (grid0.coords t) := by
  refine congrArg be (funext fun x => Fin.ext ?_)
  match x with
  | ⟨0, _⟩ =>
    show g.val = (BitVec.ofNat 32 ((grid0.coords t) 0).val).toNat + 1 * 0
    rw [i0_word, coords_val, hg]; omega

/-- The reference's result of the kernel's arguments. -/
def want (c : Dev nD) : S1179648x128.Idx → EReal :=
  shapeCast Cert.ReferenceIdeal.S1179648x128
    (Cert.ReferenceIdeal.Value.outT (expertOf (m ((c : Thread nD τ).loc main_arg0))) (argX m c) (argWg m c) (argBg m c) (argWd m c) (argBd m c))
    Cert.ReferenceIdeal.Gen.shapeCasts_S288x512x1024_S1179648x128

/-- At a place of a block in use the kernel's result array ends at the reference's result: both are the feed-forward step of the place's token
through the block's expert. -/
theorem final_eq_want (hR : Routed (beM m) (nuM m)) (c : Dev nD) (j : S1179648x128.Idx) (hj : (j 0).val / 4096 < used (nuM m)) :
    (dats m (adm m hR) hR 0 c).arrAt 5 (cfg0 (adm m hR)).N j = want m c j := by
  have hc : c = 0 := Fin.ext (by have := c.isLt; show c.val = 0; exact Nat.lt_one_iff.mp this)
  have hle := hR.le
  have hj0 : (j 0).val < 1179648 := (j 0).isLt
  have hj1 : (j 1).val < 128 := (j 1).isLt
  have hpt : (pt (adm m hR) hR ((j 0).val / 4096)).val = (j 0).val / 4096 := by
    show min ((j 0).val / 4096) (used (nuM m) - 1) = (j 0).val / 4096
    omega
  refine (final_apply m (adm m hR) hR c j hj).trans ?_
  have hlt := hR.expert (grid0.coords (pt (adm m hR) hR ((j 0).val / 4096)))
  refine (res_apply m (adm m hR) hR c (pt (adm m hR) hR ((j 0).val / 4096)) (hpt.symm ▸ hj)
    (⟨_, hlt⟩ : Fin 32) rfl (⟨(j 0).val % 4096 / 8, by omega⟩ : Fin 512) (⟨128 * ((j 0).val % 8) + (j 1).val, by omega⟩ : Fin 1024)
    _ (show (j 0).val % 4096 = 8 * ((j 0).val % 4096 / 8) + (128 * ((j 0).val % 8) + (j 1).val) / 128 by omega)
    (show (j 1).val = (128 * ((j 0).val % 8) + (j 1).val) % 128 by omega)
    (⟨512 * ((j 0).val / 4096) + (j 0).val % 4096 / 8, by omega⟩ : Fin 147456)
    (by rw [hpt])).trans ?_
  refine ((Cert.ReferenceIdeal.Value.out_tiles (⟨(j 0).val / 4096, by omega⟩ : Fin 288) _ j (⟨(j 0).val % 4096 / 8, by omega⟩ : Fin 512)
    (⟨128 * ((j 0).val % 8) + (j 1).val, by omega⟩ : Fin 1024)
    (show (j 0).val = 4096 * ((j 0).val / 4096) + 8 * ((j 0).val % 4096 / 8) + (128 * ((j 0).val % 8) + (j 1).val) / 128 by omega)
    (show (j 1).val = (128 * ((j 0).val % 8) + (j 1).val) % 128 by omega)).trans
    (Cert.ReferenceIdeal.Value.outT_apply _ _ _ _ _ _ _ (⟨_, hlt⟩ : Fin 32) ?_ _ _)).symm
  subst hc
  refine (beWord_apply (beM m) (pt (adm m hR) hR ((j 0).val / 4096)) (⟨(j 0).val / 4096, by omega⟩ : Fin 288) hpt.symm).trans ?_
  exact (BitVec.eq_of_toNat_eq (WordCmp.toNat_ofNat_of_lt (lt_trans hlt (by decide)))).symm

end Cert.KernelIdeal.Gen

end
-- ==== Proof.InProj.Spec.lean ====
module

public import proofs.«01_k».proof.Proof.Gen.Kernel2Ideal.Skeleton
public import Idealize.ShloMosaic.Lib.MatmulPlain
public import Idealize.ShloMosaic.Lib.ValueIdx
public import Idealize.ShloMosaic.Lib.ValueLayout
public import Idealize.ShloMosaic.Lib.Pointwise.Reduce
public import Idealize.ShloMosaic.Lib.Pointwise.Reshape
public import Idealize.ShloMosaic.Lib.Pipeline.Value

@[expose] public section

set_option maxRecDepth 16384

noncomputable section

namespace Cert.Kernel2Ideal.Gen

open Idealize.ShloMosaic Idealize.ShloMosaic.TcCoe Idealize.ShloMosaic.Tactic

/-! ## One token's projection, over the extended reals -/

/-- A token's row, divided by the root of its mean square, scaled by the gain and modulated. -/
def modulated (x g sc sh : Fin 1024 → EReal) (k : Fin 1024) : EReal :=
  x k * Ideal.rsqrt (Ideal.div (∑ i : Fin 1024, x i * x i) (Ideal.ofBits .f32 0x44800000#32) + Ideal.ofBits .f32 0x3727C5AC#32) * g k
    * (Ideal.ofBits .f32 0x3F800000#32 + sc k) + sh k

/-- That row against one column of the weights. -/
def proj (x g sc sh w : Fin 1024 → EReal) : EReal := ∑ k : Fin 1024, modulated x g sc sh k * w k

/-- The zero word reads 0. -/
theorem zero_word : (FloatOps.ofBits .f32 0x00000000#32 : Ideal .f32) = 0 := by
  show Ideal.ofBits .f32 0x00000000#32 = 0
  simp [Ideal.ofBits, Ideal.ieee]

/-! ## The body's block, entry by entry -/

/-- A block of tokens without its leading axis. -/
theorem tok_apply (x0 : Vec Ideal S1x512x1024 .f32) (r : Fin 512) (k : Fin 1024) :
    shapeCast S512x1024 x0 shapeCasts_S1x512x1024_S512x1024 (ix2 (n0 := 512) (n1 := 1024) r k) = x0 (ix3 (0 : Fin 1) r k) := by
  refine shapeCast_apply _ _ _ _ ?_
  refine (rowMajor_val3 (d := ![1, 512, 1024]) _ 524288 1024 rfl rfl).trans (Eq.trans ?_ (rowMajor_val2 (d := ![512, 1024]) _ 1024 rfl).symm)
  show 0 * 524288 + r.val * 1024 + k.val = r.val * 1024 + k.val
  omega

/-- A modulation row without its leading axis. -/
theorem mod_apply (x : Vec Ideal S1x1x1024 .f32) (k : Fin 1024) :
    shapeCast S1x1024 x shapeCasts_S1x1x1024_S1x1024 (ix2 (n0 := 1) (n1 := 1024) 0 k) = x (ix3 (0 : Fin 1) (0 : Fin 1) k) := by
  refine shapeCast_apply _ _ _ _ ?_
  refine (rowMajor_val3 (d := ![1, 1, 1024]) _ 1024 1024 rfl rfl).trans (Eq.trans ?_ (rowMajor_val2 (d := ![1, 1024]) _ 1024 rfl).symm)
  show 0 * 1024 + 0 * 1024 + k.val = 0 * 1024 + k.val
  omega

/-- A row of one value per token, spread over the columns. -/
theorem col_apply (y : FVec Ideal S512x1 .f32) (r : Fin 512) (k : Fin 1024) :
    broadcastTo S512x1024 y broadcasts_S512x1_S512x1024 (ix2 (n0 := 512) (n1 := 1024) r k) = y (ix2 (n0 := 512) (n1 := 1) r 0) := by
  refine broadcastTo_apply _ _ _ _ fun a => ?_
  match a with
  | ⟨0, _⟩ => rfl
  | ⟨1, _⟩ => rfl

/-- A row of one value per column, spread over the tokens. -/
theorem row_apply (y : FVec Ideal S1x1024 .f32) (r : Fin 512) (k : Fin 1024) :
    broadcastTo S512x1024 y broadcasts_S1x1024_S512x1024 (ix2 (n0 := 512) (n1 := 1024) r k) = y (ix2 (n0 := 1) (n1 := 1024) 0 k) := by
  refine broadcastTo_apply _ _ _ _ fun a => ?_
  match a with
  | ⟨0, _⟩ => rfl
  | ⟨1, _⟩ => rfl

/-- The sum of squares of each token. -/
theorem sum_apply (y : FVec Ideal S512x1024 .f32) (r : Fin 512) :
    shapeCast S512x1 (multiReduction .add [1] S512 y 0x00000000#32 reduces_S512x1024_S512 (.inl rfl) rfl) shapeCasts_S512_S512x1 (ix2 (n0 := 512) (n1 := 1) r 0)
      = ∑ k : Fin 1024, y (ix2 (n0 := 512) (n1 := 1024) r k) := by
  refine (shapeCast_apply _ _ _ (ix1 (n0 := 512) r) ?_).trans ?_
  · refine (rowMajor_val1 (d := ![512]) _).trans (Eq.trans ?_ (rowMajor_val2 (d := ![512, 1]) _ 1 rfl).symm)
    show r.val = r.val * 1 + 0
    omega
  · exact Ideal.reduceAdd_r2_a1 (n0 := 512) (n1 := 1024) _ y _

/-- **The body's product**: row `r` of the block at a column is the projection of token `r` on that column. -/
theorem pay28_apply (x0 : Vec Ideal S1x512x1024 .f32) (x1 : Vec Ideal S1x1024 .f32) (x2 x3 : Vec Ideal S1x1x1024 .f32) (x4 : Vec Ideal S1024x2304 .bf16)
    (r : Fin 512) (f : Fin 2304) :
    k0_pay28 x0 x1 x2 x3 x4 (ix2 (n0 := 512) (n1 := 2304) r f)
      = proj (fun k => x0 (ix3 (0 : Fin 1) r k)) (fun k => x1 (ix2 (n0 := 1) (n1 := 1024) 0 k)) (fun k => x2 (ix3 (0 : Fin 1) (0 : Fin 1) k))
          (fun k => x3 (ix3 (0 : Fin 1) (0 : Fin 1) k)) (fun k => x4 (ix2 (n0 := 1024) (n1 := 2304) k f)) := by
  unfold k0_pay28
  refine (Ideal.matmul_plain_apply (M := 512) (K := 1024) (N := 2304) none _ _ _ r f).trans ?_
  refine ((congrArg (· + _) zero_word).trans (zero_add _)).trans ?_
  unfold proj
  refine Finset.sum_congr rfl fun k _ => ?_
  refine congrArg₂ (· * ·) ?_ ?_
  · show (_ * broadcastTo S512x1024 _ _ _ * broadcastTo S512x1024 _ _ _ * broadcastTo S512x1024 _ _ _ + broadcastTo S512x1024 _ _ _ : EReal) = _
    unfold modulated
    refine congrArg₂ (· + ·) (congrArg₂ (· * ·) (congrArg₂ (· * ·) (congrArg₂ (· * ·) (tok_apply x0 r k) ?_) ?_) ?_) ?_
    · refine (col_apply _ r k).trans ?_
      show Ideal.rsqrt (Ideal.div (shapeCast S512x1 _ _ _) _ + _) = _
      rw [sum_apply]
      refine congrArg (fun s : EReal => Ideal.rsqrt (Ideal.div s _ + _)) (Finset.sum_congr rfl fun i _ => ?_)
      exact congrArg₂ (· * ·) (tok_apply x0 r i) (tok_apply x0 r i)
    · exact (row_apply _ r k).trans (shapeCast_apply _ _ _ _ rfl)
    · refine (row_apply _ r k).trans ?_
      exact congrArg (Ideal.ofBits .f32 0x3F800000#32 + ·) (mod_apply x2 k)
    · exact (row_apply _ r k).trans (mod_apply x3 k)
  · exact shapeCast_apply _ _ _ _ rfl

/-- The first result's block. -/
theorem pay29_apply (x0 : Vec Ideal S1x512x1024 .f32) (x1 : Vec Ideal S1x1024 .f32) (x2 x3 : Vec Ideal S1x1x1024 .f32) (x4 : Vec Ideal S1024x2304 .bf16)
    (r : Fin 512) (f : Fin 768) :
    k0_pay29 x0 x1 x2 x3 x4 (ix3 (0 : Fin 1) r f) = k0_pay28 x0 x1 x2 x3 x4 (ix2 (n0 := 512) (n1 := 2304) r ⟨f.val, by omega⟩) := by
  unfold k0_pay29
  generalize k0_pay28 x0 x1 x2 x3 x4 = y
  refine (shapeCast_apply _ _ _ (ix2 (n0 := 512) (n1 := 768) r f) ?_).trans (extractStridedSlice_apply _ _ _ _ _ fun a => ?_)
  · refine (rowMajor_val2 (d := ![512, 768]) _ 768 rfl).trans (Eq.trans ?_ (rowMajor_val3 (d := ![1, 512, 768]) _ 393216 768 rfl rfl).symm)
    show r.val * 768 + f.val = 0 * 393216 + r.val * 768 + f.val
    omega
  · match a with
    | ⟨0, _⟩ => show r.val = 0 + r.val; omega
    | ⟨1, _⟩ => show f.val = 0 + f.val; omega

/-- The second result's block. -/
theorem pay31_apply (x0 : Vec Ideal S1x512x1024 .f32) (x1 : Vec Ideal S1x1024 .f32) (x2 x3 : Vec Ideal S1x1x1024 .f32) (x4 : Vec Ideal S1024x2304 .bf16)
    (r : Fin 512) (f : Fin 256) :
    k0_pay31 (k0_pay30 x0 x1 x2 x3 x4) (ix3 (0 : Fin 1) r f) = k0_pay28 x0 x1 x2 x3 x4 (ix2 (n0 := 512) (n1 := 2304) r ⟨1280 + f.val, by omega⟩) := by
  unfold k0_pay31 k0_pay30
  generalize k0_pay28 x0 x1 x2 x3 x4 = y
  refine (shapeCast_apply _ _ _ (ix2 (n0 := 512) (n1 := 256) r f) ?_).trans ?_
  · refine (rowMajor_val2 (d := ![512, 256]) _ 256 rfl).trans (Eq.trans ?_ (rowMajor_val3 (d := ![1, 512, 256]) _ 131072 256 rfl rfl).symm)
    show r.val * 256 + f.val = 0 * 131072 + r.val * 256 + f.val
    omega
  · refine Eq.trans (b := extractStridedSlice S512x256 ![0, 1280] y slices_S512x2304_o0_1280_S512x256 (ix2 (n0 := 512) (n1 := 256) r f)) rfl (extractStridedSlice_apply _ _ _ _ _ fun a => ?_)
    match a with
    | ⟨0, _⟩ => show r.val = 0 + r.val; omega
    | ⟨1, _⟩ => rfl

end Cert.Kernel2Ideal.Gen

end
-- ==== Proof.InProj.Host.lean ====
module

public import proofs.«01_k».proof.Proof.Gen.Kernel2Ideal.Frame.Runs
public import proofs.«01_k».proof.Proof.InProj.Spec

@[expose] public section

set_option maxRecDepth 16384
set_option maxHeartbeats 51200000

noncomputable section

namespace Cert.Kernel2Ideal.Gen

open Idealize.ShloMosaic Idealize.ShloMosaic.TcCoe Idealize.ShloMosaic.Tactic

variable (m : (ℓ : Loc nD τ sig) → Buf (Elt Ideal) ℓ)

/-! ## What the host leaves in each array the kernel reads -/

/-- The tokens are as the launch found them, -/
theorem V_arg0 (c : Dev nD) : V m c main_arg0 = m ((c : Thread nD τ).loc main_arg0) := by
  simp only [V, hostOps0]
  after_results_simp <;> rfl

/-- so are the scales -/
theorem V_arg2 (c : Dev nD) : V m c main_arg2 = m ((c : Thread nD τ).loc main_arg2) := by
  simp only [V, hostOps0]
  after_results_simp <;> rfl

/-- and the shifts. -/
theorem V_arg3 (c : Dev nD) : V m c main_arg3 = m ((c : Thread nD τ).loc main_arg3) := by
  simp only [V, hostOps0]
  after_results_simp <;> rfl

/-- The gain is layer 0's. -/
theorem V_v29 (c : Dev nD) : V m c main_v29 = shapeCast S1x1024 (shapeCast S1024 (extractStridedSlice S1x1024 ![0, 0] (m ((c : Thread nD τ).loc main_arg1)) slices_S4x1024_S1x1024_0_0) shapeCasts_S1x1024_S1024) shapeCasts_S1024_S1x1024 := by
  simp only [V, hostOps0]
  after_results_simp <;> rfl

/-- A slice of the weights along their columns, at a place. -/
theorem cols_apply {n : Nat} (w : FVec Ideal S4x1024x2072 .f32) (o : Nat) (h : S4x1024x2072.Slices ![0, 0, o] ⟨3, ![4, 1024, n]⟩) (l : Fin 4) (k : Fin 1024) (f : Fin n) (q : Fin 2072)
    (hq : q.val = o + f.val) : extractStridedSlice ⟨3, ![4, 1024, n]⟩ ![0, 0, o] w h (ix3 l k f) = w (ix3 l k q) := by
  refine extractStridedSlice_apply _ _ _ _ _ fun a => ?_
  match a with
  | ⟨0, _⟩ => show l.val = 0 + l.val; omega
  | ⟨1, _⟩ => show k.val = 0 + k.val; omega
  | ⟨2, _⟩ => exact hq

/-- Layer 0 of the converted weights, at a place. -/
theorem layer_apply (y : FVec Ideal S4x1024x2304 .f32) (k : Fin 1024) (q : Fin 2304) :
    shapeCast S1024x2304 (extractStridedSlice S1x1024x2304 ![0, 0, 0] (truncf .bf16 y bitsLt_bf16_f32) slices_S4x1024x2304_S1x1024x2304_0_0_0) shapeCasts_S1x1024x2304_S1024x2304 (ix2 k q)
      = y (ix3 0 k q) := by
  refine (shapeCast_apply _ shapeCasts_S1x1024x2304_S1024x2304 (ix2 k q) (ix3 (0 : Fin 1) k q) ?_).trans ?_
  · refine (rowMajor_val3 (d := ![1, 1024, 2304]) _ 2359296 2304 rfl rfl).trans (Eq.trans ?_ (rowMajor_val2 (d := ![1024, 2304]) _ 2304 rfl).symm)
    show 0 * 2359296 + k.val * 2304 + q.val = k.val * 2304 + q.val
    omega
  · refine (extractStridedSlice_apply _ _ _ _ (ix3 (n0 := 4) 0 k q) fun a => ?_).trans rfl
    match a with
    | ⟨0, _⟩ => rfl
    | ⟨1, _⟩ => show k.val = 0 + k.val; omega
    | ⟨2, _⟩ => show q.val = 0 + q.val; omega

/-- Columns below 2180 of the reordered weights are the first part's. -/
theorem outer_apply (a : FVec Ideal S4x1024x2180 .f32) (b : FVec Ideal S4x1024x124 .f32) (k : Fin 1024) (q : Fin 2304) (hq : q.val < 2180) :
    concatenate S4x1024x2304 2 [⟨S4x1024x2180, a⟩, ⟨S4x1024x124, b⟩] concatenates_S4x1024x2180_S4x1024x124_S4x1024x2304_d2 (ix3 0 k q) = a (ix3 0 k ⟨q.val, hq⟩) := by
  refine concatenate_apply_piece (t := S4x1024x2304) 2 [⟨S4x1024x2180, a⟩, ⟨S4x1024x124, b⟩] _ _ 0 (by exact Nat.le_add_left (0 + 1) _) S4x1024x2180 a rfl rfl 0 rfl (ix3 0 k ⟨q.val, hq⟩) (fun x hx => ?_) ?_
  · match x with
    | ⟨0, _⟩ => rfl
    | ⟨1, _⟩ => rfl
    | ⟨2, _⟩ => exact absurd rfl hx
  · show 0 + q.val = q.val; omega

/-- The weights' columns 0 … 767 are the first piece's. -/
theorem V_v28_0 (c : Dev nD) (k : Fin 1024) (f : Fin 768) :
    V m c main_v28 (ix2 (n0 := 1024) (n1 := 2304) k ⟨f.val, by omega⟩) = m ((c : Thread nD τ).loc main_arg4) (ix3 (n0 := 4) (n1 := 1024) (n2 := 2072) 0 k ⟨f.val, by omega⟩) := by
  simp only [V, hostOps0]
  after_results_simp
  refine (layer_apply _ k ⟨f.val, by omega⟩).trans ((outer_apply _ _ k ⟨f.val, by omega⟩ (by show f.val < 2180; omega)).trans ?_)
  after_results_simp
  refine Eq.trans (concatenate_apply_piece (t := S4x1024x2180) 2 _ _ _ 0 (by exact Nat.le_add_left (0 + 1) _) S4x1024x768 _ rfl rfl 0 rfl (ix3 0 k f) (fun x hx => ?_) ?_) ?_
  · match x with
    | ⟨0, _⟩ => rfl
    | ⟨1, _⟩ => rfl
    | ⟨2, _⟩ => exact absurd rfl hx
  · show 0 + f.val = f.val; omega
  · show HloOp.result _ _ (Proc.tc.devRef main_v0) (ix3 0 k f) = _
    after_results_simp
    exact cols_apply _ 0 _ 0 k f _ (by show f.val = 0 + f.val; omega)

/-- The weights' columns 1280 … 1535 are the third piece's. -/
theorem V_v28_2 (c : Dev nD) (k : Fin 1024) (f : Fin 256) :
    V m c main_v28 (ix2 (n0 := 1024) (n1 := 2304) k ⟨1280 + f.val, by omega⟩) = m ((c : Thread nD τ).loc main_arg4) (ix3 (n0 := 4) (n1 := 1024) (n2 := 2072) 0 k ⟨1280 + f.val, by omega⟩) := by
  simp only [V, hostOps0]
  after_results_simp
  refine (layer_apply _ k ⟨1280 + f.val, by omega⟩).trans ((outer_apply _ _ k ⟨1280 + f.val, by omega⟩ (by show 1280 + f.val < 2180; omega)).trans ?_)
  after_results_simp
  refine Eq.trans (concatenate_apply_piece (t := S4x1024x2180) 2 _ _ _ 2 (by exact Nat.le_add_left (2 + 1) _) S4x1024x256 _ rfl rfl 1280 rfl (ix3 0 k f) (fun x hx => ?_) ?_) ?_
  · match x with
    | ⟨0, _⟩ => rfl
    | ⟨1, _⟩ => rfl
    | ⟨2, _⟩ => exact absurd rfl hx
  · rfl
  · show HloOp.result _ _ (Proc.tc.devRef main_v4) (ix3 0 k f) = _
    after_results_simp
    exact cols_apply _ 1280 _ 0 k f _ rfl

end Cert.Kernel2Ideal.Gen

end
-- ==== Proof.InProj.Block.lean ====
module

public import proofs.«01_k».proof.Proof.Gen.Kernel2Ideal.Frame
public import proofs.«01_k».proof.Proof.InProj.Host

@[expose] public section

set_option maxRecDepth 16384

noncomputable section

namespace Cert.Kernel2Ideal.Gen

open Idealize.ShloMosaic Idealize.ShloMosaic.TcCoe Idealize.ShloMosaic.Tactic

variable (m : (ℓ : Loc nD τ sig) → Buf (Elt Ideal) ℓ)

/-! ## What a block writes -/

theorem zero3 : (![0, 0, 0] : Fin 3 → Nat) = fun _ => 0 := by decide
theorem zero2 : (![0, 0] : Fin 2 → Nat) = fun _ => 0 := by decide

/-- A block's first output is the product's first 768 columns. -/
theorem out5_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x2304 .bf16) (harg6 : arg6.IsWhole) (arg7 : Memref sig .tc .vmem S1x512x768 .f32) (harg7 : arg7.IsWhole) (arg8 : Memref sig .tc .vmem S1x2x4x64x512 .bf16) (harg8 : arg8.IsWhole) (arg9 : Memref sig .tc .vmem S1x512x256 .bf16) (harg9 : arg9.IsWhole) (arg10 : Memref sig .tc .vmem S1x512x512 .bf16) (harg10 : arg10.IsWhole) (arg11 : Memref sig .tc .vmem S1x2x4x128x128 .bf16) (harg11 : arg11.IsWhole) (arg12 : Memref sig .tc .vmem S1x512x256 .bf16) (harg12 : arg12.IsWhole) (arg13 : Memref sig .tc .vmem S1x2x4x128x128 .bf16) (harg13 : arg13.IsWhole) (arg14 : Memref sig .tc .vmem S1x512x256 .f32) (harg14 : arg14.IsWhole) (hc0 : ¬cond0_0 i) (hc1 : cond0_1 i)
    (x0 : Vec Ideal S1x512x1024 .f32) (x1 : Vec Ideal S1x1024 .f32) (x2 : Vec Ideal S1x1x1024 .f32) (x3 : Vec Ideal S1x1x1024 .f32) (x4 : Vec Ideal S1024x2304 .bf16) :
    out0_B_5 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = k0_pay29 x0 x1 x2 x3 x4 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_B
  dsimp only
  rw [View.canon_unit_zero zero3]
  simp only [View.readAt_eq_ld, harg2.read_unread, harg3.read_unread, harg4.read_unread, harg5.read_unread, harg6.read_unread, View.ld_unit_zero (S := S1x512x1024) zero3, View.ld_unit_zero (S := S1x1024) zero2, View.ld_unit_zero (S := S1x1x1024) zero3, View.ld_unit_zero (S := S1024x2304) zero2]

/-- Its third output is the columns 1280 … 1535, converted. -/
theorem out7_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x2304 .bf16) (harg6 : arg6.IsWhole) (arg7 : Memref sig .tc .vmem S1x512x768 .f32) (harg7 : arg7.IsWhole) (arg8 : Memref sig .tc .vmem S1x2x4x64x512 .bf16) (harg8 : arg8.IsWhole) (arg9 : Memref sig .tc .vmem S1x512x256 .bf16) (harg9 : arg9.IsWhole) (arg10 : Memref sig .tc .vmem S1x512x512 .bf16) (harg10 : arg10.IsWhole) (arg11 : Memref sig .tc .vmem S1x2x4x128x128 .bf16) (harg11 : arg11.IsWhole) (arg12 : Memref sig .tc .vmem S1x512x256 .bf16) (harg12 : arg12.IsWhole) (arg13 : Memref sig .tc .vmem S1x2x4x128x128 .bf16) (harg13 : arg13.IsWhole) (arg14 : Memref sig .tc .vmem S1x512x256 .f32) (harg14 : arg14.IsWhole) (hc0 : ¬cond0_0 i) (hc1 : cond0_1 i)
    (x0 : Vec Ideal S1x512x1024 .f32) (x1 : Vec Ideal S1x1024 .f32) (x2 : Vec Ideal S1x1x1024 .f32) (x3 : Vec Ideal S1x1x1024 .f32) (x4 : Vec Ideal S1024x2304 .bf16) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 = k0_pay31 (k0_pay30 x0 x1 x2 x3 x4) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)]
  unfold kernelRun0_B
  dsimp only
  rw [View.canon_unit_zero zero3]
  sl_unfold_words
  simp only [View.readAt_eq_ld, harg2.read_unread, harg3.read_unread, harg4.read_unread, harg5.read_unread, harg6.read_unread, View.ld_unit_zero (S := S1x512x1024) zero3, View.ld_unit_zero (S := S1x1024) zero2, View.ld_unit_zero (S := S1x1x1024) zero3, View.ld_unit_zero (S := S1024x2304) zero2]

/-! ## The blocks, read at a place -/

theorem index0 : ∀ t : Fin cfg0.N, (cfg0.win 0).index t = ![t.val / 19, t.val % 19 - 3, 0] := by decide +kernel
theorem index1 : ∀ t : Fin cfg0.N, (cfg0.win 1).index t = ![0, 0] := by decide +kernel
theorem index2 : ∀ t : Fin cfg0.N, (cfg0.win 2).index t = ![t.val / 19, 0, 0] := by decide +kernel
theorem index3 : ∀ t : Fin cfg0.N, (cfg0.win 3).index t = ![t.val / 19, 0, 0] := by decide +kernel
theorem index4 : ∀ t : Fin cfg0.N, (cfg0.win 4).index t = ![0, 0] := by decide +kernel
theorem index5 : ∀ t : Fin cfg0.N, (cfg0.win 5).index t = ![t.val / 19, t.val % 19 - 3, 0] := by decide +kernel
theorem index7 : ∀ t : Fin cfg0.N, (cfg0.win 7).index t = ![t.val / 19, t.val % 19 - 3, 0] := by decide +kernel
/-- The first output's block is written back after exactly the points that compute it, -/
theorem flush5 : ∀ t : Fin cfg0.N, (cfg0.win 5).flush t = true ↔ 3 ≤ t.val % 19 := by decide +kernel
/-- and so is the third's. -/
theorem flush7 : ∀ t : Fin cfg0.N, (cfg0.win 7).flush t = true ↔ 3 ≤ t.val % 19 := by decide +kernel

/-- The tokens of the block. -/
theorem iblk0_apply (c : Dev nD) (t : Fin cfg0.N) (r : Fin 512) (k : Fin 1024) (i : S4x8192x1024.Idx)
    (h0 : (i 0).val = t.val / 19) (h1 : (i 1).val = 512 * (t.val % 19 - 3) + r.val) (h2 : (i 2).val = k.val) :
    iblk m c 0 t (ix3 (n0 := 1) (n1 := 512) (n2 := 1024) 0 r k) = V m c main_arg0 i := by
  unfold iblk
  show ((cfg0.win 0).blk t).view.read (Elt Ideal) (V m c main_arg0) _ = _
  generalize V m c main_arg0 = y
  refine (cast_eq rfl _).trans (congrArg y (funext fun x => Fin.ext ?_))
  refine (Pipeline.Window.rect_emb_val (cfg0.win 0) t _ x).trans ?_
  rw [index0 t]
  match x with
  | ⟨0, _⟩ => show t.val / 19 * 1 + 0 = (i 0).val; omega
  | ⟨1, _⟩ => show (t.val % 19 - 3) * 512 + r.val = (i 1).val; omega
  | ⟨2, _⟩ => show 0 * 1024 + k.val = (i 2).val; omega

/-- The gain. -/
theorem iblk1_apply (c : Dev nD) (t : Fin cfg0.N) (k : Fin 1024) :
    iblk m c 1 t (ix2 (n0 := 1) (n1 := 1024) 0 k) = V m c main_v29 (ix2 (n0 := 1) (n1 := 1024) 0 k) := by
  unfold iblk
  show ((cfg0.win 1).blk t).view.read (Elt Ideal) (V m c main_v29) _ = _
  generalize V m c main_v29 = y
  refine (cast_eq rfl _).trans (congrArg y (funext fun x => Fin.ext ?_))
  refine (Pipeline.Window.rect_emb_val (cfg0.win 1) t _ x).trans ?_
  rw [index1 t]
  match x with
  | ⟨0, _⟩ => rfl
  | ⟨1, _⟩ => show 0 * 1024 + k.val = k.val; omega

/-- The scales of the block's sequence, -/
theorem iblk2_apply (c : Dev nD) (t : Fin cfg0.N) (k : Fin 1024) (i : S4x1x1024.Idx) (h0 : (i 0).val = t.val / 19) (h2 : (i 2).val = k.val) :
    iblk m c 2 t (ix3 (n0 := 1) (n1 := 1) (n2 := 1024) 0 0 k) = V m c main_arg2 i := by
  unfold iblk
  show ((cfg0.win 2).blk t).view.read (Elt Ideal) (V m c main_arg2) _ = _
  generalize V m c main_arg2 = y
  refine (cast_eq rfl _).trans (congrArg y (funext fun x => Fin.ext ?_))
  refine (Pipeline.Window.rect_emb_val (cfg0.win 2) t _ x).trans ?_
  rw [index2 t]
  have hi : (i 1).val < 1 := (i 1).isLt
  match x with
  | ⟨0, _⟩ => show t.val / 19 * 1 + 0 = (i 0).val; omega
  | ⟨1, _⟩ => show 0 * 1 + 0 = (i 1).val; omega
  | ⟨2, _⟩ => show 0 * 1024 + k.val = (i 2).val; omega

/-- the shifts -/
theorem iblk3_apply (c : Dev nD) (t : Fin cfg0.N) (k : Fin 1024) (i : S4x1x1024.Idx) (h0 : (i 0).val = t.val / 19) (h2 : (i 2).val = k.val) :
    iblk m c 3 t (ix3 (n0 := 1) (n1 := 1) (n2 := 1024) 0 0 k) = V m c main_arg3 i := by
  unfold iblk
  show ((cfg0.win 3).blk t).view.read (Elt Ideal) (V m c main_arg3) _ = _
  generalize V m c main_arg3 = y
  refine (cast_eq rfl _).trans (congrArg y (funext fun x => Fin.ext ?_))
  refine (Pipeline.Window.rect_emb_val (cfg0.win 3) t _ x).trans ?_
  rw [index3 t]
  have hi : (i 1).val < 1 := (i 1).isLt
  match x with
  | ⟨0, _⟩ => show t.val / 19 * 1 + 0 = (i 0).val; omega
  | ⟨1, _⟩ => show 0 * 1 + 0 = (i 1).val; omega
  | ⟨2, _⟩ => show 0 * 1024 + k.val = (i 2).val; omega

/-- and the weights. -/
theorem iblk4_apply (c : Dev nD) (t : Fin cfg0.N) (k : Fin 1024) (q : Fin 2304) :
    iblk m c 4 t (ix2 (n0 := 1024) (n1 := 2304) k q) = V m c main_v28 (ix2 (n0 := 1024) (n1 := 2304) k q) := by
  unfold iblk
  show ((cfg0.win 4).blk t).view.read (Elt Ideal) (V m c main_v28) _ = _
  generalize V m c main_v28 = y
  refine (cast_eq rfl _).trans (congrArg y (funext fun x => Fin.ext ?_))
  refine (Pipeline.Window.rect_emb_val (cfg0.win 4) t _ x).trans ?_
  rw [index4 t]
  match x with
  | ⟨0, _⟩ => show 0 * 1024 + k.val = k.val; omega
  | ⟨1, _⟩ => show 0 * 2304 + q.val = q.val; omega

end Cert.Kernel2Ideal.Gen

end
-- ==== Proof.InProj.Reference.lean ====
module

public import proofs.«01_k».proof.Proof.Gen.Reference2Ideal.Run
public import proofs.«01_k».proof.Proof.InProj.Spec
public import Idealize.ShloMosaic.Lib.StackMember
public import Idealize.ShloMosaic.Lib.ValueIdxCore

@[expose] public section

set_option maxRecDepth 16384

noncomputable section

namespace Cert.Reference2Ideal.Value

open Cert.Reference2Ideal Cert.Reference2Ideal.Gen Idealize.ShloMosaic Idealize.ShloMosaic.TcCoe
open Idealize.ShloMosaic.StackMember
open Cert.Kernel2Ideal.Gen (modulated proj zero_word)

variable (x : FVec Ideal S4x8192x1024 .f32) (g : FVec Ideal S4x1024 .f32) (sc sh : FVec Ideal S4x1x1024 .f32) (w : FVec Ideal S4x1024x2072 .f32)

/-! ## The reference's terms -/

/-- One over the root of each token's mean square. -/
def rsT : FVec Ideal S4x8192x1 .f32 :=
  Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_))
    (broadcastInDim S4x8192x1 ![] bcast_S_S4x8192x1 (constant S_ .f32 0x44800000#32))) (broadcastInDim S4x8192x1 ![] bcast_S_S4x8192x1 (constant S_ .f32 0x3727C5AC#32)))

/-- The tokens, normalized and modulated. -/
def modT : FVec Ideal S4x8192x1024 .f32 :=
  addf (mulf (mulf (mulf x (broadcastInDim S4x8192x1024 ![0, 1, 2] bcast_S4x8192x1_S4x8192x1024_0_1_2 (rsT x)))
      (broadcastInDim S4x8192x1024 ![0, 1, 2] bcast_S1x1x1024_S4x8192x1024_0_1_2 (broadcastInDim S1x1x1024 ![2] bcast_S1024_S1x1x1024_2
        (shapeCast S1024 (extractStridedSlice S1x1024 ![0, 0] g slices_S4x1024_S1x1024_0_0) shapeCasts_S1x1024_S1024))))
      (broadcastInDim S4x8192x1024 ![0, 1, 2] bcast_S4x1x1024_S4x8192x1024_0_1_2 (addf (broadcastInDim S4x1x1024 ![] bcast_S_S4x1x1024 (constant S_ .f32 0x3F800000#32)) sc)))
    (broadcastInDim S4x8192x1024 ![0, 1, 2] bcast_S4x1x1024_S4x8192x1024_0_1_2 sh)

/-- The products. -/
def prodT : FVec Ideal S4x8192x2072 .f32 :=
  Host.dotGeneral dot_S4x8192x1024_S1024x2072_S4x8192x2072_2_0_01_1_n_n none (modT x g sc sh)
    (shapeCast S1024x2072 (extractStridedSlice S1x1024x2072 ![0, 0, 0] w slices_S4x1024x2072_S1x1024x2072_0_0_0) shapeCasts_S1x1024x2072_S1024x2072)

/-- The first result, -/
def out0T : FVec Ideal S4x8192x768 .f32 := extractStridedSlice S4x8192x768 ![0, 0, 0] (prodT x g sc sh w) slices_S4x8192x2072_S4x8192x768_0_0_0

/-- and the second. -/
def out1T : FVec Ideal S4x8192x256 .bf16 :=
  truncf .bf16 (extractStridedSlice S4x8192x256 ![0, 0, 1280] (prodT x g sc sh w) slices_S4x8192x2072_S4x8192x256_0_0_1280) bitsLt_bf16_f32

/-- The run, its results at these terms. -/
theorem run_terms (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = out0T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v26) = out1T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

/-! ## The terms at an index -/

variable (b : Fin 4) (s : Fin 8192)

/-- The root at a token. -/
theorem rsT_apply : rsT x (ix3 b s (0 : Fin 1))
    = Ideal.rsqrt (Ideal.div (∑ i : Fin 1024, x (ix3 b s i) * x (ix3 b s i)) (Ideal.ofBits .f32 0x44800000#32) + Ideal.ofBits .f32 0x3727C5AC#32) := by
  refine congrArg (fun u : EReal => Ideal.rsqrt (Ideal.div u (Ideal.ofBits .f32 0x44800000#32) + Ideal.ofBits .f32 0x3727C5AC#32))
    ((broadcastInDim_apply (s := S4x8192) (t := S4x8192x1) (α := EReal) ![0, 1] bcast_S4x8192_S4x8192x1_0_1 _ (ix3 b s (0 : Fin 1)) (ix2 (n0 := 4) (n1 := 8192) b s) fun a => ?_).trans ?_)
  · match a with
    | ⟨0, _⟩ => rfl
    | ⟨1, _⟩ => rfl
  · refine (Ideal.hostReduceAdd_r3_a2 (n0 := 4) (n1 := 8192) (n2 := 1024) reducesTo_S4x8192x1024_S4x8192_d2 _ _ _).trans ?_
    exact (congrArg (· + _) zero_word).trans (zero_add _)

/-- A token at a column. -/
theorem modT_apply (k : Fin 1024) : modT x g sc sh (ix3 b s k)
    = modulated (fun k => x (ix3 b s k)) (fun k => g (ix2 (0 : Fin 4) k)) (fun k => sc (ix3 b (0 : Fin 1) k)) (fun k => sh (ix3 b (0 : Fin 1) k)) k := by
  show (_ * broadcastInDim S4x8192x1024 _ _ _ _ * broadcastInDim S4x8192x1024 _ _ _ _ * broadcastInDim S4x8192x1024 _ _ _ _ + broadcastInDim S4x8192x1024 _ _ _ _ : EReal) = _
  unfold modulated
  refine congrArg₂ (· + ·) (congrArg₂ (· * ·) (congrArg₂ (· * ·) (congrArg₂ (· * ·) rfl ?_) ?_) ?_) ?_
  · refine (broadcastInDim_apply _ _ _ _ (ix3 b s (0 : Fin 1)) fun a => ?_).trans (rsT_apply x b s)
    match a with
    | ⟨0, _⟩ => rfl
    | ⟨1, _⟩ => rfl
    | ⟨2, _⟩ => rfl
  · refine (broadcastInDim_apply _ _ _ _ (ix3 (0 : Fin 1) (0 : Fin 1) k) fun a => ?_).trans ((broadcastInDim_apply _ _ _ _ (ix1 k) fun a => ?_).trans
      ((shapeCast_apply _ _ _ (ix2 (0 : Fin 1) k) ?_).trans (extractStridedSlice_apply _ _ _ _ _ fun a => ?_)))
    · match a with
      | ⟨0, _⟩ => rfl
      | ⟨1, _⟩ => rfl
      | ⟨2, _⟩ => rfl
    · match a with
      | ⟨0, _⟩ => rfl
    · refine (rowMajor_val2 (d := ![1, 1024]) _ 1024 rfl).trans (Eq.trans ?_ (rowMajor_val1 (d := ![1024]) _).symm)
      show 0 * 1024 + k.val = k.val
      omega
    · match a with
      | ⟨0, _⟩ => rfl
      | ⟨1, _⟩ => show k.val = 0 + k.val; omega
  · refine (broadcastInDim_apply _ _ _ _ (ix3 b (0 : Fin 1) k) fun a => ?_).trans rfl
    match a with
    | ⟨0, _⟩ => rfl
    | ⟨1, _⟩ => rfl
    | ⟨2, _⟩ => rfl
  · refine (broadcastInDim_apply _ _ _ _ (ix3 b (0 : Fin 1) k) fun a => ?_).trans rfl
    match a with
    | ⟨0, _⟩ => rfl
    | ⟨1, _⟩ => rfl
    | ⟨2, _⟩ => rfl

/-- Layer 0 of the weights. -/
theorem w0_apply (k : Fin 1024) (f : Fin 2072) :
    shapeCast S1024x2072 (extractStridedSlice S1x1024x2072 ![0, 0, 0] w slices_S4x1024x2072_S1x1024x2072_0_0_0) shapeCasts_S1x1024x2072_S1024x2072 (ix2 k f)
      = w (ix3 (0 : Fin 4) k f) := by
  refine (shapeCast_apply _ _ _ (ix3 (0 : Fin 1) k f) ?_).trans (extractStridedSlice_apply _ _ _ _ _ fun a => ?_)
  · refine (rowMajor_val3 (d := ![1, 1024, 2072]) _ 2121728 2072 rfl rfl).trans (Eq.trans ?_ (rowMajor_val2 (d := ![1024, 2072]) _ 2072 rfl).symm)
    show 0 * 2121728 + k.val * 2072 + f.val = k.val * 2072 + f.val
    omega
  · match a with
    | ⟨0, _⟩ => rfl
    | ⟨1, _⟩ => show k.val = 0 + k.val; omega
    | ⟨2, _⟩ => show f.val = 0 + f.val; omega

/-- **The reference's product** of a token at a column. -/
theorem prodT_apply (f : Fin 2072) : prodT x g sc sh w (ix3 b s f)
    = proj (fun k => x (ix3 b s k)) (fun k => g (ix2 (0 : Fin 4) k)) (fun k => sc (ix3 b (0 : Fin 1) k)) (fun k => sh (ix3 b (0 : Fin 1) k))
        (fun k => w (ix3 (0 : Fin 4) k f)) := by
  unfold prodT proj
  show FloatOps.dotGeneral _ none _ _ _ (ix3 b s f) = _
  rw [Ideal.dotGeneral_apply, ← Equiv.sum_comp (ValueIdx.contrEquiv1 dot_S4x8192x1024_S1024x2072_S4x8192x2072_2_0_01_1_n_n 1024 rfl rfl).symm]
  refine Finset.sum_congr rfl fun k _ => ?_
  have ck := ValueIdx.contrEquiv1_symm_val dot_S4x8192x1024_S1024x2072_S4x8192x2072_2_0_01_1_n_n 1024 rfl rfl k
  have hl : dot_S4x8192x1024_S1024x2072_S4x8192x2072_2_0_01_1_n_n.lhsIdx (ix3 b s f) ((ValueIdx.contrEquiv1 _ 1024 rfl rfl).symm k) = ix3 b s k := by
    funext ax; apply Fin.ext
    match ax with
    | ⟨0, _⟩ => rfl
    | ⟨1, _⟩ => rfl
    | ⟨2, _⟩ => exact ck
  have hr : dot_S4x8192x1024_S1024x2072_S4x8192x2072_2_0_01_1_n_n.rhsIdx (ix3 b s f) ((ValueIdx.contrEquiv1 _ 1024 rfl rfl).symm k) = ix2 k f := by
    funext ax; apply Fin.ext
    match ax with
    | ⟨0, _⟩ => exact ck
    | ⟨1, _⟩ => rfl
  rw [hl, hr]
  exact congrArg₂ (· * ·) (modT_apply x g sc sh b s k) (w0_apply w k f)

/-- The first result at a place, -/
theorem out0T_apply (f : Fin 768) : out0T x g sc sh w (ix3 b s f)
    = proj (fun k => x (ix3 b s k)) (fun k => g (ix2 (0 : Fin 4) k)) (fun k => sc (ix3 b (0 : Fin 1) k)) (fun k => sh (ix3 b (0 : Fin 1) k))
        (fun k => w (ix3 (0 : Fin 4) k (⟨f.val, by omega⟩ : Fin 2072))) := by
  refine Eq.trans ?_ (prodT_apply x g sc sh w b s (⟨f.val, by omega⟩ : Fin 2072))
  unfold out0T
  generalize prodT x g sc sh w = y
  refine extractStridedSlice_apply _ _ _ _ _ fun a => ?_
  match a with
  | ⟨0, _⟩ => show b.val = 0 + b.val; omega
  | ⟨1, _⟩ => show s.val = 0 + s.val; omega
  | ⟨2, _⟩ => show f.val = 0 + f.val; omega

/-- and the second. -/
theorem out1T_apply (f : Fin 256) : out1T x g sc sh w (ix3 b s f)
    = proj (fun k => x (ix3 b s k)) (fun k => g (ix2 (0 : Fin 4) k)) (fun k => sc (ix3 b (0 : Fin 1) k)) (fun k => sh (ix3 b (0 : Fin 1) k))
        (fun k => w (ix3 (0 : Fin 4) k (⟨1280 + f.val, by omega⟩ : Fin 2072))) := by
  refine Eq.trans ?_ (prodT_apply x g sc sh w b s (⟨1280 + f.val, by omega⟩ : Fin 2072))
  unfold out1T
  generalize prodT x g sc sh w = y
  show extractStridedSlice S4x8192x256 ![0, 0, 1280] y slices_S4x8192x2072_S4x8192x256_0_0_1280 (ix3 b s f) = _
  refine extractStridedSlice_apply _ _ _ _ _ fun a => ?_
  match a with
  | ⟨0, _⟩ => show b.val = 0 + b.val; omega
  | ⟨1, _⟩ => show s.val = 0 + s.val; omega
  | ⟨2, _⟩ => rfl

end Cert.Reference2Ideal.Value

end
-- ==== Proof.InProj.Final.lean ====
module

public import proofs.«01_k».proof.Proof.InProj.Block
public import proofs.«01_k».proof.Proof.InProj.Reference

@[expose] public section

set_option maxRecDepth 16384

noncomputable section

namespace Cert.Kernel2Ideal.Gen

open Idealize.ShloMosaic Idealize.ShloMosaic.TcCoe Idealize.ShloMosaic.Tactic

variable (m : (ℓ : Loc nD τ sig) → Buf (Elt Ideal) ℓ)

/-! ## The results, as the reference's terms of the arguments -/

/-- The first result -/
def want0 (c : Dev nD) : S4x8192x768.Idx → EReal :=
  Cert.Reference2Ideal.Value.out0T (m ((c : Thread nD τ).loc main_arg0)) (m ((c : Thread nD τ).loc main_arg1)) (m ((c : Thread nD τ).loc main_arg2)) (m ((c : Thread nD τ).loc main_arg3)) (m ((c : Thread nD τ).loc main_arg4))
/-- and the second. -/
def want1 (c : Dev nD) : S4x8192x256.Idx → EReal :=
  Cert.Reference2Ideal.Value.out1T (m ((c : Thread nD τ).loc main_arg0)) (m ((c : Thread nD τ).loc main_arg1)) (m ((c : Thread nD τ).loc main_arg2)) (m ((c : Thread nD τ).loc main_arg3)) (m ((c : Thread nD τ).loc main_arg4))

/-- The gain the kernel reads is row 0's. -/
theorem gain_apply (g : FVec Ideal S4x1024 .f32) (k : Fin 1024) :
    shapeCast S1x1024 (shapeCast S1024 (extractStridedSlice S1x1024 ![0, 0] g slices_S4x1024_S1x1024_0_0) shapeCasts_S1x1024_S1024) shapeCasts_S1024_S1x1024 (ix2 (0 : Fin 1) k)
      = g (ix2 (0 : Fin 4) k) := by
  refine (shapeCast_apply _ _ _ (ix1 k) ?_).trans ((shapeCast_apply _ _ _ (ix2 (0 : Fin 1) k) ?_).trans (extractStridedSlice_apply _ _ _ _ _ fun a => ?_))
  · refine (rowMajor_val1 (d := ![1024]) _).trans (Eq.trans ?_ (rowMajor_val2 (d := ![1, 1024]) _ 1024 rfl).symm)
    show k.val = 0 * 1024 + k.val
    omega
  · refine (rowMajor_val2 (d := ![1, 1024]) _ 1024 rfl).trans (Eq.trans ?_ (rowMajor_val1 (d := ![1024]) _).symm)
    show 0 * 1024 + k.val = k.val
    omega
  · match a with
    | ⟨0, _⟩ => rfl
    | ⟨1, _⟩ => show k.val = 0 + k.val; omega

/-- A row of a block's product, as the projection of its token by the arguments. -/
theorem row_apply' (c : Dev nD) (t : Fin cfg0.N) (r : Fin 512) (q : Fin 2304) (b : Fin 4) (s : Fin 8192) (h0 : b.val = t.val / 19) (h1 : s.val = 512 * (t.val % 19 - 3) + r.val) :
    k0_pay28 (iblk m c 0 t) (iblk m c 1 t) (iblk m c 2 t) (iblk m c 3 t) (iblk m c 4 t) (ix2 (n0 := 512) (n1 := 2304) r q)
      = proj (fun k => m ((c : Thread nD τ).loc main_arg0) (ix3 (n0 := 4) (n1 := 8192) (n2 := 1024) b s k)) (fun k => m ((c : Thread nD τ).loc main_arg1) (ix2 (n0 := 4) (n1 := 1024) 0 k))
        (fun k => m ((c : Thread nD τ).loc main_arg2) (ix3 (n0 := 4) (n1 := 1) (n2 := 1024) b 0 k)) (fun k => m ((c : Thread nD τ).loc main_arg3) (ix3 (n0 := 4) (n1 := 1) (n2 := 1024) b 0 k))
        (fun k => V m c main_v28 (ix2 (n0 := 1024) (n1 := 2304) k q)) := by
  refine (pay28_apply _ _ _ _ _ r q).trans ?_
  refine congr (congr (congr (congr (congrArg proj (funext fun k => ?_)) (funext fun k => ?_)) (funext fun k => ?_)) (funext fun k => ?_)) (funext fun k => ?_)
  · exact (iblk0_apply m c t r k (ix3 (n0 := 4) (n1 := 8192) (n2 := 1024) b s k) h0 h1 rfl).trans (congrFun (V_arg0 m c) _)
  · exact (iblk1_apply m c t k).trans ((congrFun (V_v29 m c) _).trans (gain_apply _ k))
  · exact (iblk2_apply m c t k (ix3 (n0 := 4) (n1 := 1) (n2 := 1024) b 0 k) h0 rfl).trans (congrFun (V_arg2 m c) _)
  · exact (iblk3_apply m c t k (ix3 (n0 := 4) (n1 := 1) (n2 := 1024) b 0 k) h0 rfl).trans (congrFun (V_arg3 m c) _)
  · exact iblk4_apply m c t k q

/-- Output 5's block at a point that computes it is the reference's result there. -/
theorem block5 (c : Dev nD) (t : Fin cfg0.N) (ht : 3 ≤ t.val % 19) (y : S1x512x768.Idx) (i : S4x8192x768.Idx)
    (h0 : (i 0).val = t.val / 19) (h1 : (i 1).val = 512 * (t.val % 19 - 3) + (y 1).val) (h2 : (i 2).val = (y 2).val) :
    (dats m 0 c).after 5 t y = want0 m c i := by
  have hy0 : (y 0).val < 1 := (y 0).isLt
  rw [after0_5, outsAt0_B m c t (by omega) ht]
  dsimp only
  refine (congrFun (out5_eq _ _ _ _ _ _ _ _ _ _ _ _ _ _ _ _ _ _ _ _ _ _ _ _ _ _ _ _ _ _ _ _ _ _ _) y).trans ?_
  obtain ⟨r, f, hr⟩ : ∃ (r : Fin 512) (f : Fin 768), y = ix3 (n0 := 1) (n1 := 512) (n2 := 768) 0 r f :=
    ⟨y 1, y 2, funext fun x => Fin.ext (by
      match x with
      | ⟨0, _⟩ => show (y 0).val = 0; omega
      | ⟨1, _⟩ => rfl
      | ⟨2, _⟩ => rfl)⟩
  subst hr
  obtain ⟨b, s, f', hi⟩ : ∃ (b : Fin 4) (s : Fin 8192) (f' : Fin 768), i = ix3 (n0 := 4) (n1 := 8192) (n2 := 768) b s f' :=
    ⟨i 0, i 1, i 2, funext fun x => Fin.ext (by
      match x with
      | ⟨0, _⟩ => rfl
      | ⟨1, _⟩ => rfl
      | ⟨2, _⟩ => rfl)⟩
  subst hi
  obtain rfl : f' = f := Fin.ext h2
  refine (pay29_apply _ _ _ _ _ r f').trans ((row_apply' m c t r ⟨f'.val, by omega⟩ b s h0 h1).trans ?_)
  refine Eq.trans ?_ (Cert.Reference2Ideal.Value.out0T_apply _ _ _ _ _ b s f').symm
  refine congrArg (proj (fun k => m ((c : Thread nD τ).loc main_arg0) (ix3 (n0 := 4) (n1 := 8192) (n2 := 1024) b s k)) (fun k => m ((c : Thread nD τ).loc main_arg1) (ix2 (n0 := 4) (n1 := 1024) 0 k))
        (fun k => m ((c : Thread nD τ).loc main_arg2) (ix3 (n0 := 4) (n1 := 1) (n2 := 1024) b 0 k)) (fun k => m ((c : Thread nD τ).loc main_arg3) (ix3 (n0 := 4) (n1 := 1) (n2 := 1024) b 0 k))) (funext fun k => ?_)
  exact V_v28_0 m c k f'

/-- The first result's array ends at the reference's result. -/
theorem final5 (c : Dev nD) (i : S4x8192x768.Idx) : (dats m 0 c).arrAt 5 cfg0.N i = want0 m c i := by
  have hi0 : (i 0).val < 4 := (i 0).isLt
  have hi1 : (i 1).val < 8192 := (i 1).isLt
  have hi2 : (i 2).val < 768 := (i 2).isLt
  have emb_val : ∀ (t : Fin cfg0.N) (y : S1x512x768.Idx) (i : S4x8192x768.Idx), (i 0).val = t.val / 19 → (i 1).val = 512 * (t.val % 19 - 3) + (y 1).val → (i 2).val = (y 2).val →
      ((cfg0.win 5).blk t).view.emb y = i := fun t y i h0 h1 h2 => by
    have hy0 : (y 0).val < 1 := (y 0).isLt
    refine funext fun x => Fin.ext ?_
    refine (Pipeline.Window.rect_emb_val (cfg0.win 5) t y x).trans ?_
    rw [index5 t]
    match x with
    | ⟨0, _⟩ => show t.val / 19 * 1 + (y 0).val = (i 0).val; omega
    | ⟨1, _⟩ => show (t.val % 19 - 3) * 512 + (y 1).val = (i 1).val; omega
    | ⟨2, _⟩ => show 0 * 768 + (y 2).val = (i 2).val; omega
  have hG : ∀ t, (cfg0.win 5).flush t = true → (dats m 0 c).flushed 5 t = ((cfg0.win 5).blk t).view.read (Elt Ideal) (want0 m c) := fun t hf => by
    have ht := (flush5 t).mp hf
    refine funext fun (y : S1x512x768.Idx) => ?_
    have hN : t.val < 76 := lt_of_lt_of_eq t.isLt N_0
    have hy1 : (y 1).val < 512 := (y 1).isLt
    have hi := emb_val t y (ix3 (⟨t.val / 19, by omega⟩ : Fin 4) (⟨512 * (t.val % 19 - 3) + (y 1).val, by omega⟩ : Fin 8192) (y 2)) rfl rfl rfl
    refine Eq.trans ?_ (congrArg (want0 m c) hi).symm
    show (dats m 0 c).after 5 t y = _
    exact block5 m c t ht y _ rfl rfl rfl
  have hN : 19 * (i 0).val + 3 + (i 1).val / 512 < 76 := by omega
  have hd : (19 * (i 0).val + 3 + (i 1).val / 512) / 19 = (i 0).val := by omega
  have hm : (19 * (i 0).val + 3 + (i 1).val / 512) % 19 = 3 + (i 1).val / 512 := by omega
  obtain ⟨t, ht⟩ : ∃ t : Fin cfg0.N, t.val = 19 * (i 0).val + 3 + (i 1).val / 512 := ⟨⟨_, lt_of_lt_of_eq hN N_0.symm⟩, rfl⟩
  rw [← ht] at hd hm
  have hf := (flush5 t).mpr (by omega)
  have hy := emb_val t (ix3 (0 : Fin 1) (⟨(i 1).val % 512, by omega⟩ : Fin 512) (i 2)) i hd.symm
    (show (i 1).val = 512 * (t.val % 19 - 3) + (i 1).val % 512 by omega) rfl
  exact (dats m 0 c).arrAt_apply_of_mem 5 (want0 m c) hG cfg0.N t i t.isLt hf (hy ▸ View.emb_mem_set _ _)

/-- Output 7's block at a point that computes it is the reference's result there. -/
theorem block7 (c : Dev nD) (t : Fin cfg0.N) (ht : 3 ≤ t.val % 19) (y : S1x512x256.Idx) (i : S4x8192x256.Idx)
    (h0 : (i 0).val = t.val / 19) (h1 : (i 1).val = 512 * (t.val % 19 - 3) + (y 1).val) (h2 : (i 2).val = (y 2).val) :
    (dats m 0 c).after 7 t y = want1 m c i := by
  have hy0 : (y 0).val < 1 := (y 0).isLt
  rw [after0_7, outsAt0_B m c t (by omega) ht]
  dsimp only
  refine (congrFun (out7_eq _ _ _ _ _ _ _ _ _ _ _ _ _ _ _ _ _ _ _ _ _ _ _ _ _ _ _ _ _ _ _ _ _ _ _) y).trans ?_
  obtain ⟨r, f, hr⟩ : ∃ (r : Fin 512) (f : Fin 256), y = ix3 (n0 := 1) (n1 := 512) (n2 := 256) 0 r f :=
    ⟨y 1, y 2, funext fun x => Fin.ext (by
      match x with
      | ⟨0, _⟩ => show (y 0).val = 0; omega
      | ⟨1, _⟩ => rfl
      | ⟨2, _⟩ => rfl)⟩
  subst hr
  obtain ⟨b, s, f', hi⟩ : ∃ (b : Fin 4) (s : Fin 8192) (f' : Fin 256), i = ix3 (n0 := 4) (n1 := 8192) (n2 := 256) b s f' :=
    ⟨i 0, i 1, i 2, funext fun x => Fin.ext (by
      match x with
      | ⟨0, _⟩ => rfl
      | ⟨1, _⟩ => rfl
      | ⟨2, _⟩ => rfl)⟩
  subst hi
  obtain rfl : f' = f := Fin.ext h2
  refine (pay31_apply _ _ _ _ _ r f').trans ((row_apply' m c t r ⟨1280 + f'.val, by omega⟩ b s h0 h1).trans ?_)
  refine Eq.trans ?_ (Cert.Reference2Ideal.Value.out1T_apply _ _ _ _ _ b s f').symm
  refine congrArg (proj (fun k => m ((c : Thread nD τ).loc main_arg0) (ix3 (n0 := 4) (n1 := 8192) (n2 := 1024) b s k)) (fun k => m ((c : Thread nD τ).loc main_arg1) (ix2 (n0 := 4) (n1 := 1024) 0 k))
        (fun k => m ((c : Thread nD τ).loc main_arg2) (ix3 (n0 := 4) (n1 := 1) (n2 := 1024) b 0 k)) (fun k => m ((c : Thread nD τ).loc main_arg3) (ix3 (n0 := 4) (n1 := 1) (n2 := 1024) b 0 k))) (funext fun k => ?_)
  exact V_v28_2 m c k f'

/-- The second result's array ends at the reference's result. -/
theorem final7 (c : Dev nD) (i : S4x8192x256.Idx) : (dats m 0 c).arrAt 7 cfg0.N i = want1 m c i := by
  have hi0 : (i 0).val < 4 := (i 0).isLt
  have hi1 : (i 1).val < 8192 := (i 1).isLt
  have hi2 : (i 2).val < 256 := (i 2).isLt
  have emb_val : ∀ (t : Fin cfg0.N) (y : S1x512x256.Idx) (i : S4x8192x256.Idx), (i 0).val = t.val / 19 → (i 1).val = 512 * (t.val % 19 - 3) + (y 1).val → (i 2).val = (y 2).val →
      ((cfg0.win 7).blk t).view.emb y = i := fun t y i h0 h1 h2 => by
    have hy0 : (y 0).val < 1 := (y 0).isLt
    refine funext fun x => Fin.ext ?_
    refine (Pipeline.Window.rect_emb_val (cfg0.win 7) t y x).trans ?_
    rw [index7 t]
    match x with
    | ⟨0, _⟩ => show t.val / 19 * 1 + (y 0).val = (i 0).val; omega
    | ⟨1, _⟩ => show (t.val % 19 - 3) * 512 + (y 1).val = (i 1).val; omega
    | ⟨2, _⟩ => show 0 * 256 + (y 2).val = (i 2).val; omega
  have hG : ∀ t, (cfg0.win 7).flush t = true → (dats m 0 c).flushed 7 t = ((cfg0.win 7).blk t).view.read (Elt Ideal) (want1 m c) := fun t hf => by
    have ht := (flush7 t).mp hf
    refine funext fun (y : S1x512x256.Idx) => ?_
    have hN : t.val < 76 := lt_of_lt_of_eq t.isLt N_0
    have hy1 : (y 1).val < 512 := (y 1).isLt
    have hi := emb_val t y (ix3 (⟨t.val / 19, by omega⟩ : Fin 4) (⟨512 * (t.val % 19 - 3) + (y 1).val, by omega⟩ : Fin 8192) (y 2)) rfl rfl rfl
    refine Eq.trans ?_ (congrArg (want1 m c) hi).symm
    show (dats m 0 c).after 7 t y = _
    exact block7 m c t ht y _ rfl rfl rfl
  have hN : 19 * (i 0).val + 3 + (i 1).val / 512 < 76 := by omega
  have hd : (19 * (i 0).val + 3 + (i 1).val / 512) / 19 = (i 0).val := by omega
  have hm : (19 * (i 0).val + 3 + (i 1).val / 512) % 19 = 3 + (i 1).val / 512 := by omega
  obtain ⟨t, ht⟩ : ∃ t : Fin cfg0.N, t.val = 19 * (i 0).val + 3 + (i 1).val / 512 := ⟨⟨_, lt_of_lt_of_eq hN N_0.symm⟩, rfl⟩
  rw [← ht] at hd hm
  have hf := (flush7 t).mpr (by omega)
  have hy := emb_val t (ix3 (0 : Fin 1) (⟨(i 1).val % 512, by omega⟩ : Fin 512) (i 2)) i hd.symm
    (show (i 1).val = 512 * (t.val % 19 - 3) + (i 1).val % 512 by omega) rfl
  exact (dats m 0 c).arrAt_apply_of_mem 7 (want1 m c) hG cfg0.N t i t.isLt hf (hy ▸ View.emb_mem_set _ _)

/-- The kernel's run, its two results at the reference's terms and its arguments unchanged. -/
theorem run_results (ρ : Dev nD → PrngReg) : θ_run defs (onTc (τ := τ) (main (F := Ideal))) ⟨m, fun _ => 0, ρ⟩ (fun r => ∀ c : Dev nD,
      r.2.mem ((c.tc : Thread nD τ).loc main_v30_0) = want0 m c
      ∧ r.2.mem ((c.tc : Thread nD τ).loc main_v30_2) = want1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (funext fun i => final5 m c i), ((h.1 c).1 7).trans (funext fun i => final7 m c i), h.2 c⟩)
    (θ_run_and (run_main m ρ) (unchanged m ρ))

end Cert.Kernel2Ideal.Gen

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Experts.Equal
public import proofs.«01_k».proof.Proof.InProj.Final
public import proofs.«01_k».proof.Proof.Gen.Pre_routed
public import proofs.«01_k».proof.Proof.Gen.On_in_use
public import Idealize.ShloMosaic.Adequacy
public import Idealize.ShloMosaic.Init

@[expose] public section

noncomputable section

namespace Cert.Proof

open Idealize.ShloMosaic Idealize.SL.Sem

set_option maxHeartbeats 1000000 in
/-- The body as printed and the body read at the ideal values have one text. -/
theorem body_eq : @Cert.Kernel.cc0_moe_experts Bits _ _ = @Cert.KernelIdeal.cc0_moe_experts Bits _ _ := rfl

set_option maxHeartbeats 1000000 in
/-- So have the two body tables, -/
theorem defs₀_eq : Cert.Kernel.defs₀ (F := Bits) = Cert.KernelIdeal.defs₀ := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l a
  match l, a with
  | ⟨0, _⟩, (t, s) => exact congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _

set_option maxHeartbeats 1000000 in
/-- with the pipeline's rows in them. -/
theorem defs_eq : Cert.Kernel.defs (F := Bits) = Cert.KernelIdeal.defs :=
  congrArg (Pipeline.defs (Cert.KernelIdeal.pcfgs (F := Bits))) defs₀_eq

/-- The two main programs have one text. -/
theorem main_eq : Cert.Kernel.main (F := Bits) = Cert.KernelIdeal.main := by
  chain_rfl

set_option maxHeartbeats 1000000 in
/-- The kernel as printed runs, from tables of a routing: `frame_of_routed` at the bit-exact values (the two programs have one text). -/
theorem frame_kernel : Cert.quiescent_Kernel := fun m ρ h => by
  have hrun := Cert.KernelIdeal.Gen.frame_of_routed (F := Bits) m ρ (Cert.KernelIdeal.Gen.routed_of_pre (F := Bits) _ _ _ _ _ _ (h 0))
  have hall : ∀ D M, D = Cert.KernelIdeal.defs (F := Bits) → M = Cert.KernelIdeal.main (F := Bits) → θ_run D (onTc (τ := Cert.KernelIdeal.τ) M) ⟨m, fun _ => 0, ρ⟩ _ := fun D M e e' => by
    rw [e, e']; exact hrun
  exact hall Cert.Kernel.defs Cert.Kernel.main defs_eq main_eq

/-- The kernel at the ideal values runs likewise. -/
theorem frame_ideal : Cert.quiescent_KernelIdeal := fun m ρ h =>
  Cert.KernelIdeal.Gen.frame_of_routed m ρ (Cert.KernelIdeal.Gen.routed_of_pre (F := Ideal) _ _ _ _ _ _ (h 0))

/-- The reference runs, and has no semaphore to leave set. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end, at every place of a block in use, at one value: the feed-forward step of the place's token through its block's
expert. -/
theorem algebraic : Cert.algebraic_KernelIdeal_ReferenceIdeal_on_in_use := fun m g m' g' hpre hargs => by
  have hR := Cert.KernelIdeal.Gen.routed_of_pre (F := Ideal) _ _ _ _ _ _ (hpre 0)
  refine ⟨fun c => Cert.KernelIdeal.Gen.want m c, ?_, ?_⟩
  · refine (θ_run Cert.KernelIdeal.defs _ _).mono (fun r h c => ⟨fun i hi => ?_, Cert.KernelIdeal.Gen.args_of_post m hR r h.1 c⟩)
      (Cert.KernelIdeal.Gen.run_of_routed m g hR)
    have hc : c = 0 := Fin.ext (by have := c.isLt; show c.val = 0; exact Nat.lt_one_iff.mp this)
    have hi' := Cert.KernelIdeal.Gen.block_of_in_use (F := Ideal) _ _ _ _ _ _ (by rw [hc]; exact hR.small) i hi
    rw [hc] at hi'
    exact (congrFun ((h.1 c).1 5) i).trans (Cert.KernelIdeal.Gen.final_eq_want m hR c i hi')
  · refine (θ_run Cert.ReferenceIdeal.defs _ _).mono (fun r h c => ⟨fun i _ => ?_, (h c).2⟩) (Cert.ReferenceIdeal.Value.run (F := Ideal) m' g')
    obtain ⟨e0, e1, e2, e3, e4, e5⟩ := hargs c
    refine (congrFun ((h c).1.trans (Cert.ReferenceIdeal.Value.res_eq m' c)) i).trans ?_
    rw [e0, e1, e2, e3, e4, e5]
    rfl

/-- The input projection's reference runs, and has no semaphore to leave set. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run_terms m ρ)

/-- The input projection and its reference end at one value in both results: each token's normalized, modulated row times the weights' columns. -/
theorem algebraic2 : Cert.algebraic_Kernel2Ideal_Reference2Ideal := fun m g m' g' _ hargs => by
  refine ⟨fun c => Cert.Kernel2Ideal.Gen.want0 m c, fun c => Cert.Kernel2Ideal.Gen.want1 m c, Cert.Kernel2Ideal.Gen.run_results m g, ?_⟩
  refine (θ_run Cert.Reference2Ideal.defs _ _).mono (fun r h c => ⟨?_, ?_, (h c).2.2⟩) (Cert.Reference2Ideal.Value.run_terms m' g')
  · obtain ⟨e0, e1, e2, e3, e4⟩ := hargs c
    refine ((h c).1).trans ?_
    rw [e0, e1, e2, e3, e4]
    rfl
  · obtain ⟨e0, e1, e2, e3, e4⟩ := hargs c
    refine ((h c).2.1).trans ?_
    rw [e0, e1, e2, e3, e4]
    rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Pre_routed.Gen.facts, Cert.On_in_use.Gen.facts,
  frame_kernel, frame_ideal, frame_reference, fun m ρ _ => frame_reference m ρ trivial,
  fun m ρ _ => Cert.Kernel2.Gen.frame m ρ, fun m ρ _ => Cert.Kernel2Ideal.Gen.frame m ρ, frame_reference2,
  trivial, algebraic, trivial, algebraic2⟩

end Cert.Proof

end
